-- ==== Defs.lean ====
def Pre_Kernel [hPre_groups_in_range : Cert.Pre_groups_in_range.Facts] (m : (ℓ : Loc Cert.Kernel.nD Cert.Kernel.τ Cert.Kernel.sig) → Buf (Elt Bits) ℓ) : Prop :=
  ∀ c : Dev Cert.Kernel.nD,
    (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_groups_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_groups_in_range : Cert.Pre_groups_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S64x2x1024 Cert.KernelIdeal.S64x1x1024
  ∧ IdealRules.bf16_pair.HalfStatement Cert.KernelIdeal.S64x1024
  ∧ IdealRules.bf16_pair.Statement Cert.KernelIdeal.S64x2x1024 Cert.KernelIdeal.S64x1x1024
  ∧ IdealRules.bf16_pair.HalfStatement Cert.KernelIdeal.S32x1024
  ∧ IdealRules.bf16_pair.Statement Cert.KernelIdeal.S32x2x1024 Cert.KernelIdeal.S32x1x1024
  ∧ IdealRules.bf16_pair.Statement Cert.KernelIdeal.S1x2x1024 Cert.KernelIdeal.S1x1x1024
  ∧ IdealRules.bf16_pair.Statement Cert.KernelIdeal.S16x1024 Cert.KernelIdeal.S8x1024

def algebraic_KernelIdeal_ReferenceIdeal [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel) (hPre_groups_in_range := hPre_groups_in_range)
    ∧ quiescent_KernelIdeal (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal (hKernelIdeal := hKernelIdeal) (hReferenceIdeal := hReferenceIdeal) (hPre_groups_in_range := hPre_groups_in_range)
-- ==== Pre_groups_in_range.lean ====
abbrev S48x1x8192 : Shape := ⟨3, ![48, 1, 8192]⟩
abbrev S4096x29696 : Shape := ⟨2, ![4096, 29696]⟩
abbrev S64x29696 : Shape := ⟨2, ![64, 29696]⟩
abbrev S32x29696 : Shape := ⟨2, ![32, 29696]⟩
abbrev S8192 : Shape := ⟨1, ![8192]⟩
abbrev S64 : Shape := ⟨1, ![64]⟩
abbrev S_ : Shape := ⟨0, ![]⟩

class Facts : Prop where
  slicesBy_S8192_S64_0s128 : S8192.SlicesBy (![0] : Fin 1 → Nat) ![128] S64
  slicesBy_S8192_S64_1s128 : S8192.SlicesBy (![1] : Fin 1 → Nat) ![128] S64
  bcast_S_S64 : S_.BroadcastsInDim S64 (![] : Fin 0 → Fin S64.rank)

variable [Facts]

def fn {F : FTy → Type} [FloatOps F] (main_arg0 : FVec F S48x1x8192 .bf16) (main_arg1 : IVec S4096x29696 8) (main_arg2 : FVec F S64x29696 .bf16) (main_arg3 : IVec S32x29696 8) (main_arg4 : IVec S8192 32) (main_arg5 : IVec S8192 32) : IVec S64 1 × IVec S64 1 :=
  let main_v0 : IVec S64 32 := (Host.slice S64 ![0] ![128] · slicesBy_S8192_S64_0s128) main_arg4
  let main_v1 : IVec S64 32 := (Host.slice S64 ![1] ![128] · slicesBy_S8192_S64_1s128) main_arg4
  let main_c : IVec S_ 32 := constantI S_ 32 0#32
  let main_v2 : IVec S64 32 := broadcastInDim S64 ![] bcast_S_S64 main_c
  let main_v3 : IVec S64 1 := cmpi .sge main_v0 main_v2
  let main_c_0 : IVec S_ 32 := constantI S_ 32 64#32
  let main_v4 : IVec S64 32 := broadcastInDim S64 ![] bcast_S_S64 main_c_0
  let main_v5 : IVec S64 1 := cmpi .slt main_v0 main_v4
  let main_v6 : IVec S64 1 := andi main_v3 main_v5
  let main_c_1 : IVec S_ 32 := constantI S_ 32 0#32
  let main_v7 : IVec S64 32 := broadcastInDim S64 ![] bcast_S_S64 main_c_1
  let main_v8 : IVec S64 1 := cmpi .sge main_v1 main_v7
  let main_c_2 : IVec S_ 32 := constantI S_ 32 64#32
  let main_v9 : IVec S64 32 := broadcastInDim S64 ![] bcast_S_S64 main_c_2
  let main_v10 : IVec S64 1 := cmpi .slt main_v1 main_v9
  let main_v11 : IVec S64 1 := andi main_v8 main_v10
  (main_v6, main_v11)
-- ==== Kernel.lean ====
abbrev S48x1x8192 : Shape := ⟨3, ![48, 1, 8192]⟩
abbrev S4096x29696 : Shape := ⟨2, ![4096, 29696]⟩
abbrev S64x29696 : Shape := ⟨2, ![64, 29696]⟩
abbrev S32x29696 : Shape := ⟨2, ![32, 29696]⟩
abbrev S8192 : Shape := ⟨1, ![8192]⟩
abbrev S48x8192 : Shape := ⟨2, ![48, 8192]⟩
abbrev S_ : Shape := ⟨0, ![]⟩
abbrev S8192x1 : Shape := ⟨2, ![8192, 1]⟩
abbrev S64 : Shape := ⟨1, ![64]⟩
abbrev S48x29696 : Shape := ⟨2, ![48, 29696]⟩
abbrev S4096x1024 : Shape := ⟨2, ![4096, 1024]⟩
abbrev S64x1024 : Shape := ⟨2, ![64, 1024]⟩
abbrev S32x1024 : Shape := ⟨2, ![32, 1024]⟩
abbrev S48x1024 : Shape := ⟨2, ![48, 1024]⟩
abbrev S1 : Shape := ⟨1, ![1]⟩
abbrev S1x1024 : Shape := ⟨2, ![1, 1024]⟩
abbrev S8x1024 : Shape := ⟨2, ![8, 1024]⟩
abbrev S16x1024 : Shape := ⟨2, ![16, 1024]⟩
abbrev S128x1024 : Shape := ⟨2, ![128, 1024]⟩
abbrev S256x1024 : Shape := ⟨2, ![256, 1024]⟩
abbrev S48x256 : Shape := ⟨2, ![48, 256]⟩

abbrev nBuf : Space → Nat
  | .hbm => 17
  | .vmem => 13
  | .smem => 2
  | _ => 0

abbrev bufTy : (tb : Table) → Fin (tcTables nBuf tb) → BufTy
  | .hbm, ⟨0, _⟩ => ⟨S48x1x8192, .bf16⟩
  | .hbm, ⟨1, _⟩ => ⟨S4096x29696, .i8⟩
  | .hbm, ⟨2, _⟩ => ⟨S64x29696, .bf16⟩
  | .hbm, ⟨3, _⟩ => ⟨S32x29696, .i8⟩
  | .hbm, ⟨4, _⟩ => ⟨S8192, .i32⟩
  | .hbm, ⟨5, _⟩ => ⟨S8192, .i32⟩
  | .hbm, ⟨6, _⟩ => ⟨S48x8192, .bf16⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S48x8192, .bf16⟩
  | .hbm, ⟨16, _⟩ => ⟨S48x29696, .bf16⟩
  | .local _ .vmem, ⟨0, _⟩ => ⟨S48x8192, .bf16⟩
  | .local _ .vmem, ⟨1, _⟩ => ⟨S4096x1024, .i8⟩
  | .local _ .vmem, ⟨2, _⟩ => ⟨S4096x1024, .i8⟩
  | .local _ .vmem, ⟨3, _⟩ => ⟨S64x1024, .bf16⟩
  | .local _ .vmem, ⟨4, _⟩ => ⟨S64x1024, .bf16⟩
  | .local _ .vmem, ⟨5, _⟩ => ⟨S32x1024, .i8⟩
  | .local _ .vmem, ⟨6, _⟩ => ⟨S32x1024, .i8⟩
  | .local _ .vmem, ⟨7, _⟩ => ⟨S48x1024, .bf16⟩
  | .local _ .vmem, ⟨8, _⟩ => ⟨S48x1024, .bf16⟩
  | .local _ .vmem, ⟨9, _⟩ => ⟨S64x1024, .i32⟩
  | .local _ .vmem, ⟨10, _⟩ => ⟨S64x1024, .i32⟩
  | .local _ .vmem, ⟨11, _⟩ => ⟨S64x1024, .i32⟩
  | .local _ .vmem, ⟨12, _⟩ => ⟨S64x1024, .i32⟩
  | .local _ .smem, ⟨0, _⟩ => ⟨S64, .i32⟩
  | .local _ .smem, ⟨1, _⟩ => ⟨S64, .i32⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v10 : Ref sig .tc := ⟨.hbm, 16, rfl⟩
abbrev main_v8 : Ref sig .tc := ⟨.smem, 0, rfl⟩
abbrev main_v9 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![29], ![false]⟩

abbrev pre0 : Pipeline.Prefetch sig := ⟨2, ![main_v8.idx, main_v9.idx], fun | 0 => main_v8.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v65 : BitVec 32) : Fin 2 → Nat :=
  let v66 : Index := Scalar.indexCast v65
  let c0_26 : Index := 0#32
  ![v66.toNat, 0]

def k0_off2 (v64 : BitVec 32) : Fin 2 → Nat :=
  let v70 : Index := Scalar.indexCast v64
  let c0_27 : Index := 0#32
  ![v70.toNat, 0]

def k0_chk2 (v64 : BitVec 32) : Prop :=
  (∀ a, (k0_off2 v64) a + S1x1024.size a ≤ S64x1024.size a)
theorem k0_off2_inb : ∀ (v64 : BitVec 32) (k0_hw2 : k0_chk2 v64), ∀ a, (k0_off2 v64) a + S1x1024.size a ≤ S64x1024.size a := fun v64 k0_hw2 => k0_hw2

def k0_off3 (v65 : BitVec 32) : Fin 2 → Nat :=
  let v77 : Index := Scalar.indexCast v65
  let c0_28 : Index := 0#32
  ![v77.toNat, 0]

def k0_chk1 (v65 : BitVec 32) : Prop :=
  (∀ a, (k0_off1 v65) a + S1x1024.size a ≤ S64x1024.size a) ∧
  (∀ a, (k0_off3 v65) a + S1x1024.size a ≤ S64x1024.size a)
theorem k0_off1_inb : ∀ (v65 : BitVec 32) (k0_hw1 : k0_chk1 v65), ∀ a, (k0_off1 v65) a + S1x1024.size a ≤ S64x1024.size a := fun v65 k0_hw1 => k0_hw1.1
theorem k0_off3_inb : ∀ (v65 : BitVec 32) (k0_hw1 : k0_chk1 v65), ∀ a, (k0_off3 v65) a + S1x1024.size a ≤ S64x1024.size a := fun v65 k0_hw1 => k0_hw1.2

def k0_off4 (v124 : BitVec 32) : Fin 2 → Nat :=
  let v125 : Index := Scalar.indexCast v124
  let c0_37 : Index := 0#32
  ![v125.toNat, 0]

def k0_off5 (v123 : BitVec 32) : Fin 2 → Nat :=
  let v129 : Index := Scalar.indexCast v123
  let c0_39 : Index := 0#32
  ![v129.toNat, 0]

def k0_chk4 (v123 : BitVec 32) : Prop :=
  (∀ a, (k0_off5 v123) a + S1x1024.size a ≤ S64x1024.size a)
theorem k0_off5_inb : ∀ (v123 : BitVec 32) (k0_hw4 : k0_chk4 v123), ∀ a, (k0_off5 v123) a + S1x1024.size a ≤ S64x1024.size a := fun v123 k0_hw4 => k0_hw4

def k0_off6 (v124 : BitVec 32) : Fin 2 → Nat :=
  let v136 : Index := Scalar.indexCast v124
  let c0_41 : Index := 0#32
  ![v136.toNat, 0]

def k0_chk3 (v124 : BitVec 32) : Prop :=
  (∀ a, (k0_off4 v124) a + S1x1024.size a ≤ S64x1024.size a) ∧
  (∀ a, (k0_off6 v124) a + S1x1024.size a ≤ S64x1024.size a)
theorem k0_off4_inb : ∀ (v124 : BitVec 32) (k0_hw3 : k0_chk3 v124), ∀ a, (k0_off4 v124) a + S1x1024.size a ≤ S64x1024.size a := fun v124 k0_hw3 => k0_hw3.1
theorem k0_off6_inb : ∀ (v124 : BitVec 32) (k0_hw3 : k0_chk3 v124), ∀ a, (k0_off6 v124) a + S1x1024.size a ≤ S64x1024.size a := fun v124 k0_hw3 => k0_hw3.2

def k0_off7 (v188 : BitVec 32) : Fin 2 → Nat :=
  let v189 : Index := Scalar.indexCast v188
  let c0_53 : Index := 0#32
  ![v189.toNat, 0]

def k0_off8 (v187 : BitVec 32) : Fin 2 → Nat :=
  let v193 : Index := Scalar.indexCast v187
  let c0_55 : Index := 0#32
  ![v193.toNat, 0]

def k0_chk6 (v187 : BitVec 32) : Prop :=
  (∀ a, (k0_off8 v187) a + S1x1024.size a ≤ S64x1024.size a)
theorem k0_off8_inb : ∀ (v187 : BitVec 32) (k0_hw6 : k0_chk6 v187), ∀ a, (k0_off8 v187) a + S1x1024.size a ≤ S64x1024.size a := fun v187 k0_hw6 => k0_hw6

def k0_off9 (v188 : BitVec 32) : Fin 2 → Nat :=
  let v200 : Index := Scalar.indexCast v188
  let c0_57 : Index := 0#32
  ![v200.toNat, 0]

def k0_chk5 (v188 : BitVec 32) : Prop :=
  (∀ a, (k0_off7 v188) a + S1x1024.size a ≤ S64x1024.size a) ∧
  (∀ a, (k0_off9 v188) a + S1x1024.size a ≤ S64x1024.size a)
theorem k0_off7_inb : ∀ (v188 : BitVec 32) (k0_hw5 : k0_chk5 v188), ∀ a, (k0_off7 v188) a + S1x1024.size a ≤ S64x1024.size a := fun v188 k0_hw5 => k0_hw5.1
theorem k0_off9_inb : ∀ (v188 : BitVec 32) (k0_hw5 : k0_chk5 v188), ∀ a, (k0_off9 v188) a + S1x1024.size a ≤ S64x1024.size a := fun v188 k0_hw5 => k0_hw5.2

def k0_off10 (v247 : BitVec 32) : Fin 2 → Nat :=
  let v248 : Index := Scalar.indexCast v247
  let c0_66 : Index := 0#32
  ![v248.toNat, 0]

def k0_off11 (v246 : BitVec 32) : Fin 2 → Nat :=
  let v252 : Index := Scalar.indexCast v246
  let c0_68 : Index := 0#32
  ![v252.toNat, 0]

def k0_chk8 (v246 : BitVec 32) : Prop :=
  (∀ a, (k0_off11 v246) a + S1x1024.size a ≤ S64x1024.size a)
theorem k0_off11_inb : ∀ (v246 : BitVec 32) (k0_hw8 : k0_chk8 v246), ∀ a, (k0_off11 v246) a + S1x1024.size a ≤ S64x1024.size a := fun v246 k0_hw8 => k0_hw8

def k0_off12 (v247 : BitVec 32) : Fin 2 → Nat :=
  let v259 : Index := Scalar.indexCast v247
  let c0_70 : Index := 0#32
  ![v259.toNat, 0]

def k0_chk7 (v247 : BitVec 32) : Prop :=
  (∀ a, (k0_off10 v247) a + S1x1024.size a ≤ S64x1024.size a) ∧
  (∀ a, (k0_off12 v247) a + S1x1024.size a ≤ S64x1024.size a)
theorem k0_off10_inb : ∀ (v247 : BitVec 32) (k0_hw7 : k0_chk7 v247), ∀ a, (k0_off10 v247) a + S1x1024.size a ≤ S64x1024.size a := fun v247 k0_hw7 => k0_hw7.1
theorem k0_off12_inb : ∀ (v247 : BitVec 32) (k0_hw7 : k0_chk7 v247), ∀ a, (k0_off12 v247) a + S1x1024.size a ≤ S64x1024.size a := fun v247 k0_hw7 => k0_hw7.2

def k0_off13 (v311 : BitVec 32) : Fin 2 → Nat :=
  let v312 : Index := Scalar.indexCast v311
  let c0_81 : Index := 0#32
  ![v312.toNat, 0]

def k0_off14 (v310 : BitVec 32) : Fin 2 → Nat :=
  let v316 : Index := Scalar.indexCast v310
  let c0_83 : Index := 0#32
  ![v316.toNat, 0]

def k0_chk10 (v310 : BitVec 32) : Prop :=
  (∀ a, (k0_off14 v310) a + S1x1024.size a ≤ S64x1024.size a)
theorem k0_off14_inb : ∀ (v310 : BitVec 32) (k0_hw10 : k0_chk10 v310), ∀ a, (k0_off14 v310) a + S1x1024.size a ≤ S64x1024.size a := fun v310 k0_hw10 => k0_hw10

def k0_off15 (v311 : BitVec 32) : Fin 2 → Nat :=
  let v323 : Index := Scalar.indexCast v311
  let c0_85 : Index := 0#32
  ![v323.toNat, 0]

def k0_chk9 (v311 : BitVec 32) : Prop :=
  (∀ a, (k0_off13 v311) a + S1x1024.size a ≤ S64x1024.size a) ∧
  (∀ a, (k0_off15 v311) a + S1x1024.size a ≤ S64x1024.size a)
theorem k0_off13_inb : ∀ (v311 : BitVec 32) (k0_hw9 : k0_chk9 v311), ∀ a, (k0_off13 v311) a + S1x1024.size a ≤ S64x1024.size a := fun v311 k0_hw9 => k0_hw9.1
theorem k0_off15_inb : ∀ (v311 : BitVec 32) (k0_hw9 : k0_chk9 v311), ∀ a, (k0_off15 v311) a + S1x1024.size a ≤ S64x1024.size a := fun v311 k0_hw9 => k0_hw9.2

def k0_off16 (v370 : BitVec 32) : Fin 2 → Nat :=
  let v371 : Index := Scalar.indexCast v370
  let c0_95 : Index := 0#32
  ![v371.toNat, 0]

def k0_off17 (v369 : BitVec 32) : Fin 2 → Nat :=
  let v375 : Index := Scalar.indexCast v369
  let c0_97 : Index := 0#32
  ![v375.toNat, 0]

def k0_chk12 (v369 : BitVec 32) : Prop :=
  (∀ a, (k0_off17 v369) a + S1x1024.size a ≤ S64x1024.size a)
theorem k0_off17_inb : ∀ (v369 : BitVec 32) (k0_hw12 : k0_chk12 v369), ∀ a, (k0_off17 v369) a + S1x1024.size a ≤ S64x1024.size a := fun v369 k0_hw12 => k0_hw12

def k0_off18 (v370 : BitVec 32) : Fin 2 → Nat :=
  let v382 : Index := Scalar.indexCast v370
  let c0_99 : Index := 0#32
  ![v382.toNat, 0]

def k0_chk11 (v370 : BitVec 32) : Prop :=
  (∀ a, (k0_off16 v370) a + S1x1024.size a ≤ S64x1024.size a) ∧
  (∀ a, (k0_off18 v370) a + S1x1024.size a ≤ S64x1024.size a)
theorem k0_off16_inb : ∀ (v370 : BitVec 32) (k0_hw11 : k0_chk11 v370), ∀ a, (k0_off16 v370) a + S1x1024.size a ≤ S64x1024.size a := fun v370 k0_hw11 => k0_hw11.1
theorem k0_off18_inb : ∀ (v370 : BitVec 32) (k0_hw11 : k0_chk11 v370), ∀ a, (k0_off18 v370) a + S1x1024.size a ≤ S64x1024.size a := fun v370 k0_hw11 => k0_hw11.2

def k0_off19 (v434 : BitVec 32) : Fin 2 → Nat :=
  let v435 : Index := Scalar.indexCast v434
  let c0_110 : Index := 0#32
  ![v435.toNat, 0]

def k0_off20 (v433 : BitVec 32) : Fin 2 → Nat :=
  let v439 : Index := Scalar.indexCast v433
  let c0_112 : Index := 0#32
  ![v439.toNat, 0]

def k0_chk14 (v433 : BitVec 32) : Prop :=
  (∀ a, (k0_off20 v433) a + S1x1024.size a ≤ S64x1024.size a)
theorem k0_off20_inb : ∀ (v433 : BitVec 32) (k0_hw14 : k0_chk14 v433), ∀ a, (k0_off20 v433) a + S1x1024.size a ≤ S64x1024.size a := fun v433 k0_hw14 => k0_hw14

def k0_off21 (v434 : BitVec 32) : Fin 2 → Nat :=
  let v446 : Index := Scalar.indexCast v434
  let c0_114 : Index := 0#32
  ![v446.toNat, 0]

def k0_chk13 (v434 : BitVec 32) : Prop :=
  (∀ a, (k0_off19 v434) a + S1x1024.size a ≤ S64x1024.size a) ∧
  (∀ a, (k0_off21 v434) a + S1x1024.size a ≤ S64x1024.size a)
theorem k0_off19_inb : ∀ (v434 : BitVec 32) (k0_hw13 : k0_chk13 v434), ∀ a, (k0_off19 v434) a + S1x1024.size a ≤ S64x1024.size a := fun v434 k0_hw13 => k0_hw13.1
theorem k0_off21_inb : ∀ (v434 : BitVec 32) (k0_hw13 : k0_chk13 v434), ∀ a, (k0_off21 v434) a + S1x1024.size a ≤ S64x1024.size a := fun v434 k0_hw13 => k0_hw13.2

def k0_off22 (v493 : BitVec 32) : Fin 2 → Nat :=
  let v494 : Index := Scalar.indexCast v493
  let c0_123 : Index := 0#32
  ![v494.toNat, 0]

def k0_off23 (v492 : BitVec 32) : Fin 2 → Nat :=
  let v498 : Index := Scalar.indexCast v492
  let c0_125 : Index := 0#32
  ![v498.toNat, 0]

def k0_chk16 (v492 : BitVec 32) : Prop :=
  (∀ a, (k0_off23 v492) a + S1x1024.size a ≤ S64x1024.size a)
theorem k0_off23_inb : ∀ (v492 : BitVec 32) (k0_hw16 : k0_chk16 v492), ∀ a, (k0_off23 v492) a + S1x1024.size a ≤ S64x1024.size a := fun v492 k0_hw16 => k0_hw16

def k0_off24 (v493 : BitVec 32) : Fin 2 → Nat :=
  let v505 : Index := Scalar.indexCast v493
  let c0_127 : Index := 0#32
  ![v505.toNat, 0]

def k0_chk15 (v493 : BitVec 32) : Prop :=
  (∀ a, (k0_off22 v493) a + S1x1024.size a ≤ S64x1024.size a) ∧
  (∀ a, (k0_off24 v493) a + S1x1024.size a ≤ S64x1024.size a)
theorem k0_off22_inb : ∀ (v493 : BitVec 32) (k0_hw15 : k0_chk15 v493), ∀ a, (k0_off22 v493) a + S1x1024.size a ≤ S64x1024.size a := fun v493 k0_hw15 => k0_hw15.1
theorem k0_off24_inb : ∀ (v493 : BitVec 32) (k0_hw15 : k0_chk15 v493), ∀ a, (k0_off24 v493) a + S1x1024.size a ≤ S64x1024.size a := fun v493 k0_hw15 => k0_hw15.2

def k0_off25 (v557 : BitVec 32) : Fin 2 → Nat :=
  let v558 : Index := Scalar.indexCast v557
  let c0_138 : Index := 0#32
  ![v558.toNat, 0]

def k0_off26 (v556 : BitVec 32) : Fin 2 → Nat :=
  let v562 : Index := Scalar.indexCast v556
  let c0_140 : Index := 0#32
  ![v562.toNat, 0]

def k0_chk18 (v556 : BitVec 32) : Prop :=
  (∀ a, (k0_off26 v556) a + S1x1024.size a ≤ S64x1024.size a)
theorem k0_off26_inb : ∀ (v556 : BitVec 32) (k0_hw18 : k0_chk18 v556), ∀ a, (k0_off26 v556) a + S1x1024.size a ≤ S64x1024.size a := fun v556 k0_hw18 => k0_hw18

def k0_off27 (v557 : BitVec 32) : Fin 2 → Nat :=
  let v569 : Index := Scalar.indexCast v557
  let c0_142 : Index := 0#32
  ![v569.toNat, 0]

def k0_chk17 (v557 : BitVec 32) : Prop :=
  (∀ a, (k0_off25 v557) a + S1x1024.size a ≤ S64x1024.size a) ∧
  (∀ a, (k0_off27 v557) a + S1x1024.size a ≤ S64x1024.size a)
theorem k0_off25_inb : ∀ (v557 : BitVec 32) (k0_hw17 : k0_chk17 v557), ∀ a, (k0_off25 v557) a + S1x1024.size a ≤ S64x1024.size a := fun v557 k0_hw17 => k0_hw17.1
theorem k0_off27_inb : ∀ (v557 : BitVec 32) (k0_hw17 : k0_chk17 v557), ∀ a, (k0_off27 v557) a + S1x1024.size a ≤ S64x1024.size a := fun v557 k0_hw17 => k0_hw17.2

def k0_off28 (v616 : BitVec 32) : Fin 2 → Nat :=
  let v617 : Index := Scalar.indexCast v616
  let c0_152 : Index := 0#32
  ![v617.toNat, 0]

def k0_off29 (v615 : BitVec 32) : Fin 2 → Nat :=
  let v621 : Index := Scalar.indexCast v615
  let c0_154 : Index := 0#32
  ![v621.toNat, 0]

def k0_chk20 (v615 : BitVec 32) : Prop :=
  (∀ a, (k0_off29 v615) a + S1x1024.size a ≤ S64x1024.size a)
theorem k0_off29_inb : ∀ (v615 : BitVec 32) (k0_hw20 : k0_chk20 v615), ∀ a, (k0_off29 v615) a + S1x1024.size a ≤ S64x1024.size a := fun v615 k0_hw20 => k0_hw20

def k0_off30 (v616 : BitVec 32) : Fin 2 → Nat :=
  let v628 : Index := Scalar.indexCast v616
  let c0_156 : Index := 0#32
  ![v628.toNat, 0]

def k0_chk19 (v616 : BitVec 32) : Prop :=
  (∀ a, (k0_off28 v616) a + S1x1024.size a ≤ S64x1024.size a) ∧
  (∀ a, (k0_off30 v616) a + S1x1024.size a ≤ S64x1024.size a)
theorem k0_off28_inb : ∀ (v616 : BitVec 32) (k0_hw19 : k0_chk19 v616), ∀ a, (k0_off28 v616) a + S1x1024.size a ≤ S64x1024.size a := fun v616 k0_hw19 => k0_hw19.1
theorem k0_off30_inb : ∀ (v616 : BitVec 32) (k0_hw19 : k0_chk19 v616), ∀ a, (k0_off30 v616) a + S1x1024.size a ≤ S64x1024.size a := fun v616 k0_hw19 => k0_hw19.2

def k0_off31 (v680 : BitVec 32) : Fin 2 → Nat :=
  let v681 : Index := Scalar.indexCast v680
  let c0_167 : Index := 0#32
  ![v681.toNat, 0]

def k0_off32 (v679 : BitVec 32) : Fin 2 → Nat :=
  let v685 : Index := Scalar.indexCast v679
  let c0_169 : Index := 0#32
  ![v685.toNat, 0]

def k0_chk22 (v679 : BitVec 32) : Prop :=
  (∀ a, (k0_off32 v679) a + S1x1024.size a ≤ S64x1024.size a)
theorem k0_off32_inb : ∀ (v679 : BitVec 32) (k0_hw22 : k0_chk22 v679), ∀ a, (k0_off32 v679) a + S1x1024.size a ≤ S64x1024.size a := fun v679 k0_hw22 => k0_hw22

def k0_off33 (v680 : BitVec 32) : Fin 2 → Nat :=
  let v692 : Index := Scalar.indexCast v680
  let c0_171 : Index := 0#32
  ![v692.toNat, 0]

def k0_chk21 (v680 : BitVec 32) : Prop :=
  (∀ a, (k0_off31 v680) a + S1x1024.size a ≤ S64x1024.size a) ∧
  (∀ a, (k0_off33 v680) a + S1x1024.size a ≤ S64x1024.size a)
theorem k0_off31_inb : ∀ (v680 : BitVec 32) (k0_hw21 : k0_chk21 v680), ∀ a, (k0_off31 v680) a + S1x1024.size a ≤ S64x1024.size a := fun v680 k0_hw21 => k0_hw21.1
theorem k0_off33_inb : ∀ (v680 : BitVec 32) (k0_hw21 : k0_chk21 v680), ∀ a, (k0_off33 v680) a + S1x1024.size a ≤ S64x1024.size a := fun v680 k0_hw21 => k0_hw21.2

def k0_off34 (v739 : BitVec 32) : Fin 2 → Nat :=
  let v740 : Index := Scalar.indexCast v739
  let c0_180 : Index := 0#32
  ![v740.toNat, 0]

def k0_off35 (v738 : BitVec 32) : Fin 2 → Nat :=
  let v744 : Index := Scalar.indexCast v738
  let c0_182 : Index := 0#32
  ![v744.toNat, 0]

def k0_chk24 (v738 : BitVec 32) : Prop :=
  (∀ a, (k0_off35 v738) a + S1x1024.size a ≤ S64x1024.size a)
theorem k0_off35_inb : ∀ (v738 : BitVec 32) (k0_hw24 : k0_chk24 v738), ∀ a, (k0_off35 v738) a + S1x1024.size a ≤ S64x1024.size a := fun v738 k0_hw24 => k0_hw24

def k0_off36 (v739 : BitVec 32) : Fin 2 → Nat :=
  let v751 : Index := Scalar.indexCast v739
  let c0_184 : Index := 0#32
  ![v751.toNat, 0]

def k0_chk23 (v739 : BitVec 32) : Prop :=
  (∀ a, (k0_off34 v739) a + S1x1024.size a ≤ S64x1024.size a) ∧
  (∀ a, (k0_off36 v739) a + S1x1024.size a ≤ S64x1024.size a)
theorem k0_off34_inb : ∀ (v739 : BitVec 32) (k0_hw23 : k0_chk23 v739), ∀ a, (k0_off34 v739) a + S1x1024.size a ≤ S64x1024.size a := fun v739 k0_hw23 => k0_hw23.1
theorem k0_off36_inb : ∀ (v739 : BitVec 32) (k0_hw23 : k0_chk23 v739), ∀ a, (k0_off36 v739) a + S1x1024.size a ≤ S64x1024.size a := fun v739 k0_hw23 => k0_hw23.2

def k0_off37 (v803 : BitVec 32) : Fin 2 → Nat :=
  let v804 : Index := Scalar.indexCast v803
  let c0_195 : Index := 0#32
  ![v804.toNat, 0]

def k0_off38 (v802 : BitVec 32) : Fin 2 → Nat :=
  let v808 : Index := Scalar.indexCast v802
  let c0_197 : Index := 0#32
  ![v808.toNat, 0]

def k0_chk26 (v802 : BitVec 32) : Prop :=
  (∀ a, (k0_off38 v802) a + S1x1024.size a ≤ S64x1024.size a)
theorem k0_off38_inb : ∀ (v802 : BitVec 32) (k0_hw26 : k0_chk26 v802), ∀ a, (k0_off38 v802) a + S1x1024.size a ≤ S64x1024.size a := fun v802 k0_hw26 => k0_hw26

def k0_off39 (v803 : BitVec 32) : Fin 2 → Nat :=
  let v815 : Index := Scalar.indexCast v803
  let c0_199 : Index := 0#32
  ![v815.toNat, 0]

def k0_chk25 (v803 : BitVec 32) : Prop :=
  (∀ a, (k0_off37 v803) a + S1x1024.size a ≤ S64x1024.size a) ∧
  (∀ a, (k0_off39 v803) a + S1x1024.size a ≤ S64x1024.size a)
theorem k0_off37_inb : ∀ (v803 : BitVec 32) (k0_hw25 : k0_chk25 v803), ∀ a, (k0_off37 v803) a + S1x1024.size a ≤ S64x1024.size a := fun v803 k0_hw25 => k0_hw25.1
theorem k0_off39_inb : ∀ (v803 : BitVec 32) (k0_hw25 : k0_chk25 v803), ∀ a, (k0_off39 v803) a + S1x1024.size a ≤ S64x1024.size a := fun v803 k0_hw25 => k0_hw25.2

def k0_off40 (v862 : BitVec 32) : Fin 2 → Nat :=
  let v863 : Index := Scalar.indexCast v862
  let c0_209 : Index := 0#32
  ![v863.toNat, 0]

def k0_off41 (v861 : BitVec 32) : Fin 2 → Nat :=
  let v867 : Index := Scalar.indexCast v861
  let c0_211 : Index := 0#32
  ![v867.toNat, 0]

def k0_chk28 (v861 : BitVec 32) : Prop :=
  (∀ a, (k0_off41 v861) a + S1x1024.size a ≤ S64x1024.size a)
theorem k0_off41_inb : ∀ (v861 : BitVec 32) (k0_hw28 : k0_chk28 v861), ∀ a, (k0_off41 v861) a + S1x1024.size a ≤ S64x1024.size a := fun v861 k0_hw28 => k0_hw28

def k0_off42 (v862 : BitVec 32) : Fin 2 → Nat :=
  let v874 : Index := Scalar.indexCast v862
  let c0_213 : Index := 0#32
  ![v874.toNat, 0]

def k0_chk27 (v862 : BitVec 32) : Prop :=
  (∀ a, (k0_off40 v862) a + S1x1024.size a ≤ S64x1024.size a) ∧
  (∀ a, (k0_off42 v862) a + S1x1024.size a ≤ S64x1024.size a)
theorem k0_off40_inb : ∀ (v862 : BitVec 32) (k0_hw27 : k0_chk27 v862), ∀ a, (k0_off40 v862) a + S1x1024.size a ≤ S64x1024.size a := fun v862 k0_hw27 => k0_hw27.1
theorem k0_off42_inb : ∀ (v862 : BitVec 32) (k0_hw27 : k0_chk27 v862), ∀ a, (k0_off42 v862) a + S1x1024.size a ≤ S64x1024.size a := fun v862 k0_hw27 => k0_hw27.2

def k0_off43 (v926 : BitVec 32) : Fin 2 → Nat :=
  let v927 : Index := Scalar.indexCast v926
  let c0_224 : Index := 0#32
  ![v927.toNat, 0]

def k0_off44 (v925 : BitVec 32) : Fin 2 → Nat :=
  let v931 : Index := Scalar.indexCast v925
  let c0_226 : Index := 0#32
  ![v931.toNat, 0]

def k0_chk30 (v925 : BitVec 32) : Prop :=
  (∀ a, (k0_off44 v925) a + S1x1024.size a ≤ S64x1024.size a)
theorem k0_off44_inb : ∀ (v925 : BitVec 32) (k0_hw30 : k0_chk30 v925), ∀ a, (k0_off44 v925) a + S1x1024.size a ≤ S64x1024.size a := fun v925 k0_hw30 => k0_hw30

def k0_off45 (v926 : BitVec 32) : Fin 2 → Nat :=
  let v938 : Index := Scalar.indexCast v926
  let c0_228 : Index := 0#32
  ![v938.toNat, 0]

def k0_chk29 (v926 : BitVec 32) : Prop :=
  (∀ a, (k0_off43 v926) a + S1x1024.size a ≤ S64x1024.size a) ∧
  (∀ a, (k0_off45 v926) a + S1x1024.size a ≤ S64x1024.size a)
theorem k0_off43_inb : ∀ (v926 : BitVec 32) (k0_hw29 : k0_chk29 v926), ∀ a, (k0_off43 v926) a + S1x1024.size a ≤ S64x1024.size a := fun v926 k0_hw29 => k0_hw29.1
theorem k0_off45_inb : ∀ (v926 : BitVec 32) (k0_hw29 : k0_chk29 v926), ∀ a, (k0_off45 v926) a + S1x1024.size a ≤ S64x1024.size a := fun v926 k0_hw29 => k0_hw29.2

def k0_off46 (v985 : BitVec 32) : Fin 2 → Nat :=
  let v986 : Index := Scalar.indexCast v985
  let c0_237 : Index := 0#32
  ![v986.toNat, 0]

def k0_off47 (v984 : BitVec 32) : Fin 2 → Nat :=
  let v990 : Index := Scalar.indexCast v984
  let c0_239 : Index := 0#32
  ![v990.toNat, 0]

def k0_chk32 (v984 : BitVec 32) : Prop :=
  (∀ a, (k0_off47 v984) a + S1x1024.size a ≤ S64x1024.size a)
theorem k0_off47_inb : ∀ (v984 : BitVec 32) (k0_hw32 : k0_chk32 v984), ∀ a, (k0_off47 v984) a + S1x1024.size a ≤ S64x1024.size a := fun v984 k0_hw32 => k0_hw32

def k0_off48 (v985 : BitVec 32) : Fin 2 → Nat :=
  let v997 : Index := Scalar.indexCast v985
  let c0_241 : Index := 0#32
  ![v997.toNat, 0]

def k0_chk31 (v985 : BitVec 32) : Prop :=
  (∀ a, (k0_off46 v985) a + S1x1024.size a ≤ S64x1024.size a) ∧
  (∀ a, (k0_off48 v985) a + S1x1024.size a ≤ S64x1024.size a)
theorem k0_off46_inb : ∀ (v985 : BitVec 32) (k0_hw31 : k0_chk31 v985), ∀ a, (k0_off46 v985) a + S1x1024.size a ≤ S64x1024.size a := fun v985 k0_hw31 => k0_hw31.1
theorem k0_off48_inb : ∀ (v985 : BitVec 32) (k0_hw31 : k0_chk31 v985), ∀ a, (k0_off48 v985) a + S1x1024.size a ≤ S64x1024.size a := fun v985 k0_hw31 => k0_hw31.2

def k0_off49 (v1049 : BitVec 32) : Fin 2 → Nat :=
  let v1050 : Index := Scalar.indexCast v1049
  let c0_252 : Index := 0#32
  ![v1050.toNat, 0]

def k0_off50 (v1048 : BitVec 32) : Fin 2 → Nat :=
  let v1054 : Index := Scalar.indexCast v1048
  let c0_254 : Index := 0#32
  ![v1054.toNat, 0]

def k0_chk34 (v1048 : BitVec 32) : Prop :=
  (∀ a, (k0_off50 v1048) a + S1x1024.size a ≤ S64x1024.size a)
theorem k0_off50_inb : ∀ (v1048 : BitVec 32) (k0_hw34 : k0_chk34 v1048), ∀ a, (k0_off50 v1048) a + S1x1024.size a ≤ S64x1024.size a := fun v1048 k0_hw34 => k0_hw34

def k0_off51 (v1049 : BitVec 32) : Fin 2 → Nat :=
  let v1061 : Index := Scalar.indexCast v1049
  let c0_256 : Index := 0#32
  ![v1061.toNat, 0]

def k0_chk33 (v1049 : BitVec 32) : Prop :=
  (∀ a, (k0_off49 v1049) a + S1x1024.size a ≤ S64x1024.size a) ∧
  (∀ a, (k0_off51 v1049) a + S1x1024.size a ≤ S64x1024.size a)
theorem k0_off49_inb : ∀ (v1049 : BitVec 32) (k0_hw33 : k0_chk33 v1049), ∀ a, (k0_off49 v1049) a + S1x1024.size a ≤ S64x1024.size a := fun v1049 k0_hw33 => k0_hw33.1
theorem k0_off51_inb : ∀ (v1049 : BitVec 32) (k0_hw33 : k0_chk33 v1049), ∀ a, (k0_off51 v1049) a + S1x1024.size a ≤ S64x1024.size a := fun v1049 k0_hw33 => k0_hw33.2

def k0_off52 (v1108 : BitVec 32) : Fin 2 → Nat :=
  let v1109 : Index := Scalar.indexCast v1108
  let c0_266 : Index := 0#32
  ![v1109.toNat, 0]

def k0_off53 (v1107 : BitVec 32) : Fin 2 → Nat :=
  let v1113 : Index := Scalar.indexCast v1107
  let c0_268 : Index := 0#32
  ![v1113.toNat, 0]

def k0_chk36 (v1107 : BitVec 32) : Prop :=
  (∀ a, (k0_off53 v1107) a + S1x1024.size a ≤ S64x1024.size a)
theorem k0_off53_inb : ∀ (v1107 : BitVec 32) (k0_hw36 : k0_chk36 v1107), ∀ a, (k0_off53 v1107) a + S1x1024.size a ≤ S64x1024.size a := fun v1107 k0_hw36 => k0_hw36

def k0_off54 (v1108 : BitVec 32) : Fin 2 → Nat :=
  let v1120 : Index := Scalar.indexCast v1108
  let c0_270 : Index := 0#32
  ![v1120.toNat, 0]

def k0_chk35 (v1108 : BitVec 32) : Prop :=
  (∀ a, (k0_off52 v1108) a + S1x1024.size a ≤ S64x1024.size a) ∧
  (∀ a, (k0_off54 v1108) a + S1x1024.size a ≤ S64x1024.size a)
theorem k0_off52_inb : ∀ (v1108 : BitVec 32) (k0_hw35 : k0_chk35 v1108), ∀ a, (k0_off52 v1108) a + S1x1024.size a ≤ S64x1024.size a := fun v1108 k0_hw35 => k0_hw35.1
theorem k0_off54_inb : ∀ (v1108 : BitVec 32) (k0_hw35 : k0_chk35 v1108), ∀ a, (k0_off54 v1108) a + S1x1024.size a ≤ S64x1024.size a := fun v1108 k0_hw35 => k0_hw35.2

def k0_off55 (v1172 : BitVec 32) : Fin 2 → Nat :=
  let v1173 : Index := Scalar.indexCast v1172
  let c0_281 : Index := 0#32
  ![v1173.toNat, 0]

def k0_off56 (v1171 : BitVec 32) : Fin 2 → Nat :=
  let v1177 : Index := Scalar.indexCast v1171
  let c0_283 : Index := 0#32
  ![v1177.toNat, 0]

def k0_chk38 (v1171 : BitVec 32) : Prop :=
  (∀ a, (k0_off56 v1171) a + S1x1024.size a ≤ S64x1024.size a)
theorem k0_off56_inb : ∀ (v1171 : BitVec 32) (k0_hw38 : k0_chk38 v1171), ∀ a, (k0_off56 v1171) a + S1x1024.size a ≤ S64x1024.size a := fun v1171 k0_hw38 => k0_hw38

def k0_off57 (v1172 : BitVec 32) : Fin 2 → Nat :=
  let v1184 : Index := Scalar.indexCast v1172
  let c0_285 : Index := 0#32
  ![v1184.toNat, 0]

def k0_chk37 (v1172 : BitVec 32) : Prop :=
  (∀ a, (k0_off55 v1172) a + S1x1024.size a ≤ S64x1024.size a) ∧
  (∀ a, (k0_off57 v1172) a + S1x1024.size a ≤ S64x1024.size a)
theorem k0_off55_inb : ∀ (v1172 : BitVec 32) (k0_hw37 : k0_chk37 v1172), ∀ a, (k0_off55 v1172) a + S1x1024.size a ≤ S64x1024.size a := fun v1172 k0_hw37 => k0_hw37.1
theorem k0_off57_inb : ∀ (v1172 : BitVec 32) (k0_hw37 : k0_chk37 v1172), ∀ a, (k0_off57 v1172) a + S1x1024.size a ≤ S64x1024.size a := fun v1172 k0_hw37 => k0_hw37.2

def k0_off58 (v1231 : BitVec 32) : Fin 2 → Nat :=
  let v1232 : Index := Scalar.indexCast v1231
  let c0_294 : Index := 0#32
  ![v1232.toNat, 0]

def k0_off59 (v1230 : BitVec 32) : Fin 2 → Nat :=
  let v1236 : Index := Scalar.indexCast v1230
  let c0_296 : Index := 0#32
  ![v1236.toNat, 0]

def k0_chk40 (v1230 : BitVec 32) : Prop :=
  (∀ a, (k0_off59 v1230) a + S1x1024.size a ≤ S64x1024.size a)
theorem k0_off59_inb : ∀ (v1230 : BitVec 32) (k0_hw40 : k0_chk40 v1230), ∀ a, (k0_off59 v1230) a + S1x1024.size a ≤ S64x1024.size a := fun v1230 k0_hw40 => k0_hw40

def k0_off60 (v1231 : BitVec 32) : Fin 2 → Nat :=
  let v1243 : Index := Scalar.indexCast v1231
  let c0_298 : Index := 0#32
  ![v1243.toNat, 0]

def k0_chk39 (v1231 : BitVec 32) : Prop :=
  (∀ a, (k0_off58 v1231) a + S1x1024.size a ≤ S64x1024.size a) ∧
  (∀ a, (k0_off60 v1231) a + S1x1024.size a ≤ S64x1024.size a)
theorem k0_off58_inb : ∀ (v1231 : BitVec 32) (k0_hw39 : k0_chk39 v1231), ∀ a, (k0_off58 v1231) a + S1x1024.size a ≤ S64x1024.size a := fun v1231 k0_hw39 => k0_hw39.1
theorem k0_off60_inb : ∀ (v1231 : BitVec 32) (k0_hw39 : k0_chk39 v1231), ∀ a, (k0_off60 v1231) a + S1x1024.size a ≤ S64x1024.size a := fun v1231 k0_hw39 => k0_hw39.2

def k0_off61 (v1295 : BitVec 32) : Fin 2 → Nat :=
  let v1296 : Index := Scalar.indexCast v1295
  let c0_309 : Index := 0#32
  ![v1296.toNat, 0]

def k0_off62 (v1294 : BitVec 32) : Fin 2 → Nat :=
  let v1300 : Index := Scalar.indexCast v1294
  let c0_311 : Index := 0#32
  ![v1300.toNat, 0]

def k0_chk42 (v1294 : BitVec 32) : Prop :=
  (∀ a, (k0_off62 v1294) a + S1x1024.size a ≤ S64x1024.size a)
theorem k0_off62_inb : ∀ (v1294 : BitVec 32) (k0_hw42 : k0_chk42 v1294), ∀ a, (k0_off62 v1294) a + S1x1024.size a ≤ S64x1024.size a := fun v1294 k0_hw42 => k0_hw42

def k0_off63 (v1295 : BitVec 32) : Fin 2 → Nat :=
  let v1307 : Index := Scalar.indexCast v1295
  let c0_313 : Index := 0#32
  ![v1307.toNat, 0]

def k0_chk41 (v1295 : BitVec 32) : Prop :=
  (∀ a, (k0_off61 v1295) a + S1x1024.size a ≤ S64x1024.size a) ∧
  (∀ a, (k0_off63 v1295) a + S1x1024.size a ≤ S64x1024.size a)
theorem k0_off61_inb : ∀ (v1295 : BitVec 32) (k0_hw41 : k0_chk41 v1295), ∀ a, (k0_off61 v1295) a + S1x1024.size a ≤ S64x1024.size a := fun v1295 k0_hw41 => k0_hw41.1
theorem k0_off63_inb : ∀ (v1295 : BitVec 32) (k0_hw41 : k0_chk41 v1295), ∀ a, (k0_off63 v1295) a + S1x1024.size a ≤ S64x1024.size a := fun v1295 k0_hw41 => k0_hw41.2

def k0_off64 (v1354 : BitVec 32) : Fin 2 → Nat :=
  let v1355 : Index := Scalar.indexCast v1354
  let c0_323 : Index := 0#32
  ![v1355.toNat, 0]

def k0_off65 (v1353 : BitVec 32) : Fin 2 → Nat :=
  let v1359 : Index := Scalar.indexCast v1353
  let c0_325 : Index := 0#32
  ![v1359.toNat, 0]

def k0_chk44 (v1353 : BitVec 32) : Prop :=
  (∀ a, (k0_off65 v1353) a + S1x1024.size a ≤ S64x1024.size a)
theorem k0_off65_inb : ∀ (v1353 : BitVec 32) (k0_hw44 : k0_chk44 v1353), ∀ a, (k0_off65 v1353) a + S1x1024.size a ≤ S64x1024.size a := fun v1353 k0_hw44 => k0_hw44

def k0_off66 (v1354 : BitVec 32) : Fin 2 → Nat :=
  let v1366 : Index := Scalar.indexCast v1354
  let c0_327 : Index := 0#32
  ![v1366.toNat, 0]

def k0_chk43 (v1354 : BitVec 32) : Prop :=
  (∀ a, (k0_off64 v1354) a + S1x1024.size a ≤ S64x1024.size a) ∧
  (∀ a, (k0_off66 v1354) a + S1x1024.size a ≤ S64x1024.size a)
theorem k0_off64_inb : ∀ (v1354 : BitVec 32) (k0_hw43 : k0_chk43 v1354), ∀ a, (k0_off64 v1354) a + S1x1024.size a ≤ S64x1024.size a := fun v1354 k0_hw43 => k0_hw43.1
theorem k0_off66_inb : ∀ (v1354 : BitVec 32) (k0_hw43 : k0_chk43 v1354), ∀ a, (k0_off66 v1354) a + S1x1024.size a ≤ S64x1024.size a := fun v1354 k0_hw43 => k0_hw43.2

def k0_off67 (v1418 : BitVec 32) : Fin 2 → Nat :=
  let v1419 : Index := Scalar.indexCast v1418
  let c0_338 : Index := 0#32
  ![v1419.toNat, 0]

def k0_off68 (v1417 : BitVec 32) : Fin 2 → Nat :=
  let v1423 : Index := Scalar.indexCast v1417
  let c0_340 : Index := 0#32
  ![v1423.toNat, 0]

def k0_chk46 (v1417 : BitVec 32) : Prop :=
  (∀ a, (k0_off68 v1417) a + S1x1024.size a ≤ S64x1024.size a)
theorem k0_off68_inb : ∀ (v1417 : BitVec 32) (k0_hw46 : k0_chk46 v1417), ∀ a, (k0_off68 v1417) a + S1x1024.size a ≤ S64x1024.size a := fun v1417 k0_hw46 => k0_hw46

def k0_off69 (v1418 : BitVec 32) : Fin 2 → Nat :=
  let v1430 : Index := Scalar.indexCast v1418
  let c0_342 : Index := 0#32
  ![v1430.toNat, 0]

def k0_chk45 (v1418 : BitVec 32) : Prop :=
  (∀ a, (k0_off67 v1418) a + S1x1024.size a ≤ S64x1024.size a) ∧
  (∀ a, (k0_off69 v1418) a + S1x1024.size a ≤ S64x1024.size a)
theorem k0_off67_inb : ∀ (v1418 : BitVec 32) (k0_hw45 : k0_chk45 v1418), ∀ a, (k0_off67 v1418) a + S1x1024.size a ≤ S64x1024.size a := fun v1418 k0_hw45 => k0_hw45.1
theorem k0_off69_inb : ∀ (v1418 : BitVec 32) (k0_hw45 : k0_chk45 v1418), ∀ a, (k0_off69 v1418) a + S1x1024.size a ≤ S64x1024.size a := fun v1418 k0_hw45 => k0_hw45.2

def k0_off70 (v1477 : BitVec 32) : Fin 2 → Nat :=
  let v1478 : Index := Scalar.indexCast v1477
  let c0_351 : Index := 0#32
  ![v1478.toNat, 0]

def k0_off71 (v1476 : BitVec 32) : Fin 2 → Nat :=
  let v1482 : Index := Scalar.indexCast v1476
  let c0_353 : Index := 0#32
  ![v1482.toNat, 0]

def k0_chk48 (v1476 : BitVec 32) : Prop :=
  (∀ a, (k0_off71 v1476) a + S1x1024.size a ≤ S64x1024.size a)
theorem k0_off71_inb : ∀ (v1476 : BitVec 32) (k0_hw48 : k0_chk48 v1476), ∀ a, (k0_off71 v1476) a + S1x1024.size a ≤ S64x1024.size a := fun v1476 k0_hw48 => k0_hw48

def k0_off72 (v1477 : BitVec 32) : Fin 2 → Nat :=
  let v1489 : Index := Scalar.indexCast v1477
  let c0_355 : Index := 0#32
  ![v1489.toNat, 0]

def k0_chk47 (v1477 : BitVec 32) : Prop :=
  (∀ a, (k0_off70 v1477) a + S1x1024.size a ≤ S64x1024.size a) ∧
  (∀ a, (k0_off72 v1477) a + S1x1024.size a ≤ S64x1024.size a)
theorem k0_off70_inb : ∀ (v1477 : BitVec 32) (k0_hw47 : k0_chk47 v1477), ∀ a, (k0_off70 v1477) a + S1x1024.size a ≤ S64x1024.size a := fun v1477 k0_hw47 => k0_hw47.1
theorem k0_off72_inb : ∀ (v1477 : BitVec 32) (k0_hw47 : k0_chk47 v1477), ∀ a, (k0_off72 v1477) a + S1x1024.size a ≤ S64x1024.size a := fun v1477 k0_hw47 => k0_hw47.2

def k0_off73 (v1541 : BitVec 32) : Fin 2 → Nat :=
  let v1542 : Index := Scalar.indexCast v1541
  let c0_366 : Index := 0#32
  ![v1542.toNat, 0]

def k0_off74 (v1540 : BitVec 32) : Fin 2 → Nat :=
  let v1546 : Index := Scalar.indexCast v1540
  let c0_368 : Index := 0#32
  ![v1546.toNat, 0]

def k0_chk50 (v1540 : BitVec 32) : Prop :=
  (∀ a, (k0_off74 v1540) a + S1x1024.size a ≤ S64x1024.size a)
theorem k0_off74_inb : ∀ (v1540 : BitVec 32) (k0_hw50 : k0_chk50 v1540), ∀ a, (k0_off74 v1540) a + S1x1024.size a ≤ S64x1024.size a := fun v1540 k0_hw50 => k0_hw50

def k0_off75 (v1541 : BitVec 32) : Fin 2 → Nat :=
  let v1553 : Index := Scalar.indexCast v1541
  let c0_370 : Index := 0#32
  ![v1553.toNat, 0]

def k0_chk49 (v1541 : BitVec 32) : Prop :=
  (∀ a, (k0_off73 v1541) a + S1x1024.size a ≤ S64x1024.size a) ∧
  (∀ a, (k0_off75 v1541) a + S1x1024.size a ≤ S64x1024.size a)
theorem k0_off73_inb : ∀ (v1541 : BitVec 32) (k0_hw49 : k0_chk49 v1541), ∀ a, (k0_off73 v1541) a + S1x1024.size a ≤ S64x1024.size a := fun v1541 k0_hw49 => k0_hw49.1
theorem k0_off75_inb : ∀ (v1541 : BitVec 32) (k0_hw49 : k0_chk49 v1541), ∀ a, (k0_off75 v1541) a + S1x1024.size a ≤ S64x1024.size a := fun v1541 k0_hw49 => k0_hw49.2

def k0_off76 (v1600 : BitVec 32) : Fin 2 → Nat :=
  let v1601 : Index := Scalar.indexCast v1600
  let c0_380 : Index := 0#32
  ![v1601.toNat, 0]

def k0_off77 (v1599 : BitVec 32) : Fin 2 → Nat :=
  let v1605 : Index := Scalar.indexCast v1599
  let c0_382 : Index := 0#32
  ![v1605.toNat, 0]

def k0_chk52 (v1599 : BitVec 32) : Prop :=
  (∀ a, (k0_off77 v1599) a + S1x1024.size a ≤ S64x1024.size a)
theorem k0_off77_inb : ∀ (v1599 : BitVec 32) (k0_hw52 : k0_chk52 v1599), ∀ a, (k0_off77 v1599) a + S1x1024.size a ≤ S64x1024.size a := fun v1599 k0_hw52 => k0_hw52

def k0_off78 (v1600 : BitVec 32) : Fin 2 → Nat :=
  let v1612 : Index := Scalar.indexCast v1600
  let c0_384 : Index := 0#32
  ![v1612.toNat, 0]

def k0_chk51 (v1600 : BitVec 32) : Prop :=
  (∀ a, (k0_off76 v1600) a + S1x1024.size a ≤ S64x1024.size a) ∧
  (∀ a, (k0_off78 v1600) a + S1x1024.size a ≤ S64x1024.size a)
theorem k0_off76_inb : ∀ (v1600 : BitVec 32) (k0_hw51 : k0_chk51 v1600), ∀ a, (k0_off76 v1600) a + S1x1024.size a ≤ S64x1024.size a := fun v1600 k0_hw51 => k0_hw51.1
theorem k0_off78_inb : ∀ (v1600 : BitVec 32) (k0_hw51 : k0_chk51 v1600), ∀ a, (k0_off78 v1600) a + S1x1024.size a ≤ S64x1024.size a := fun v1600 k0_hw51 => k0_hw51.2

def k0_off79 (v1664 : BitVec 32) : Fin 2 → Nat :=
  let v1665 : Index := Scalar.indexCast v1664
  let c0_395 : Index := 0#32
  ![v1665.toNat, 0]

def k0_off80 (v1663 : BitVec 32) : Fin 2 → Nat :=
  let v1669 : Index := Scalar.indexCast v1663
  let c0_397 : Index := 0#32
  ![v1669.toNat, 0]

def k0_chk54 (v1663 : BitVec 32) : Prop :=
  (∀ a, (k0_off80 v1663) a + S1x1024.size a ≤ S64x1024.size a)
theorem k0_off80_inb : ∀ (v1663 : BitVec 32) (k0_hw54 : k0_chk54 v1663), ∀ a, (k0_off80 v1663) a + S1x1024.size a ≤ S64x1024.size a := fun v1663 k0_hw54 => k0_hw54

def k0_off81 (v1664 : BitVec 32) : Fin 2 → Nat :=
  let v1676 : Index := Scalar.indexCast v1664
  let c0_399 : Index := 0#32
  ![v1676.toNat, 0]

def k0_chk53 (v1664 : BitVec 32) : Prop :=
  (∀ a, (k0_off79 v1664) a + S1x1024.size a ≤ S64x1024.size a) ∧
  (∀ a, (k0_off81 v1664) a + S1x1024.size a ≤ S64x1024.size a)
theorem k0_off79_inb : ∀ (v1664 : BitVec 32) (k0_hw53 : k0_chk53 v1664), ∀ a, (k0_off79 v1664) a + S1x1024.size a ≤ S64x1024.size a := fun v1664 k0_hw53 => k0_hw53.1
theorem k0_off81_inb : ∀ (v1664 : BitVec 32) (k0_hw53 : k0_chk53 v1664), ∀ a, (k0_off81 v1664) a + S1x1024.size a ≤ S64x1024.size a := fun v1664 k0_hw53 => k0_hw53.2

def k0_off82 (v1723 : BitVec 32) : Fin 2 → Nat :=
  let v1724 : Index := Scalar.indexCast v1723
  let c0_408 : Index := 0#32
  ![v1724.toNat, 0]

def k0_off83 (v1722 : BitVec 32) : Fin 2 → Nat :=
  let v1728 : Index := Scalar.indexCast v1722
  let c0_410 : Index := 0#32
  ![v1728.toNat, 0]

def k0_chk56 (v1722 : BitVec 32) : Prop :=
  (∀ a, (k0_off83 v1722) a + S1x1024.size a ≤ S64x1024.size a)
theorem k0_off83_inb : ∀ (v1722 : BitVec 32) (k0_hw56 : k0_chk56 v1722), ∀ a, (k0_off83 v1722) a + S1x1024.size a ≤ S64x1024.size a := fun v1722 k0_hw56 => k0_hw56

def k0_off84 (v1723 : BitVec 32) : Fin 2 → Nat :=
  let v1735 : Index := Scalar.indexCast v1723
  let c0_412 : Index := 0#32
  ![v1735.toNat, 0]

def k0_chk55 (v1723 : BitVec 32) : Prop :=
  (∀ a, (k0_off82 v1723) a + S1x1024.size a ≤ S64x1024.size a) ∧
  (∀ a, (k0_off84 v1723) a + S1x1024.size a ≤ S64x1024.size a)
theorem k0_off82_inb : ∀ (v1723 : BitVec 32) (k0_hw55 : k0_chk55 v1723), ∀ a, (k0_off82 v1723) a + S1x1024.size a ≤ S64x1024.size a := fun v1723 k0_hw55 => k0_hw55.1
theorem k0_off84_inb : ∀ (v1723 : BitVec 32) (k0_hw55 : k0_chk55 v1723), ∀ a, (k0_off84 v1723) a + S1x1024.size a ≤ S64x1024.size a := fun v1723 k0_hw55 => k0_hw55.2

def k0_off85 (v1787 : BitVec 32) : Fin 2 → Nat :=
  let v1788 : Index := Scalar.indexCast v1787
  let c0_423 : Index := 0#32
  ![v1788.toNat, 0]

def k0_off86 (v1786 : BitVec 32) : Fin 2 → Nat :=
  let v1792 : Index := Scalar.indexCast v1786
  let c0_425 : Index := 0#32
  ![v1792.toNat, 0]

def k0_chk58 (v1786 : BitVec 32) : Prop :=
  (∀ a, (k0_off86 v1786) a + S1x1024.size a ≤ S64x1024.size a)
theorem k0_off86_inb : ∀ (v1786 : BitVec 32) (k0_hw58 : k0_chk58 v1786), ∀ a, (k0_off86 v1786) a + S1x1024.size a ≤ S64x1024.size a := fun v1786 k0_hw58 => k0_hw58

def k0_off87 (v1787 : BitVec 32) : Fin 2 → Nat :=
  let v1799 : Index := Scalar.indexCast v1787
  let c0_427 : Index := 0#32
  ![v1799.toNat, 0]

def k0_chk57 (v1787 : BitVec 32) : Prop :=
  (∀ a, (k0_off85 v1787) a + S1x1024.size a ≤ S64x1024.size a) ∧
  (∀ a, (k0_off87 v1787) a + S1x1024.size a ≤ S64x1024.size a)
theorem k0_off85_inb : ∀ (v1787 : BitVec 32) (k0_hw57 : k0_chk57 v1787), ∀ a, (k0_off85 v1787) a + S1x1024.size a ≤ S64x1024.size a := fun v1787 k0_hw57 => k0_hw57.1
theorem k0_off87_inb : ∀ (v1787 : BitVec 32) (k0_hw57 : k0_chk57 v1787), ∀ a, (k0_off87 v1787) a + S1x1024.size a ≤ S64x1024.size a := fun v1787 k0_hw57 => k0_hw57.2

def k0_off88 (v1846 : BitVec 32) : Fin 2 → Nat :=
  let v1847 : Index := Scalar.indexCast v1846
  let c0_437 : Index := 0#32
  ![v1847.toNat, 0]

def k0_off89 (v1845 : BitVec 32) : Fin 2 → Nat :=
  let v1851 : Index := Scalar.indexCast v1845
  let c0_439 : Index := 0#32
  ![v1851.toNat, 0]

def k0_chk60 (v1845 : BitVec 32) : Prop :=
  (∀ a, (k0_off89 v1845) a + S1x1024.size a ≤ S64x1024.size a)
theorem k0_off89_inb : ∀ (v1845 : BitVec 32) (k0_hw60 : k0_chk60 v1845), ∀ a, (k0_off89 v1845) a + S1x1024.size a ≤ S64x1024.size a := fun v1845 k0_hw60 => k0_hw60

def k0_off90 (v1846 : BitVec 32) : Fin 2 → Nat :=
  let v1858 : Index := Scalar.indexCast v1846
  let c0_441 : Index := 0#32
  ![v1858.toNat, 0]

def k0_chk59 (v1846 : BitVec 32) : Prop :=
  (∀ a, (k0_off88 v1846) a + S1x1024.size a ≤ S64x1024.size a) ∧
  (∀ a, (k0_off90 v1846) a + S1x1024.size a ≤ S64x1024.size a)
theorem k0_off88_inb : ∀ (v1846 : BitVec 32) (k0_hw59 : k0_chk59 v1846), ∀ a, (k0_off88 v1846) a + S1x1024.size a ≤ S64x1024.size a := fun v1846 k0_hw59 => k0_hw59.1
theorem k0_off90_inb : ∀ (v1846 : BitVec 32) (k0_hw59 : k0_chk59 v1846), ∀ a, (k0_off90 v1846) a + S1x1024.size a ≤ S64x1024.size a := fun v1846 k0_hw59 => k0_hw59.2

def k0_off91 (v1910 : BitVec 32) : Fin 2 → Nat :=
  let v1911 : Index := Scalar.indexCast v1910
  let c0_452 : Index := 0#32
  ![v1911.toNat, 0]

def k0_off92 (v1909 : BitVec 32) : Fin 2 → Nat :=
  let v1915 : Index := Scalar.indexCast v1909
  let c0_454 : Index := 0#32
  ![v1915.toNat, 0]

def k0_chk62 (v1909 : BitVec 32) : Prop :=
  (∀ a, (k0_off92 v1909) a + S1x1024.size a ≤ S64x1024.size a)
theorem k0_off92_inb : ∀ (v1909 : BitVec 32) (k0_hw62 : k0_chk62 v1909), ∀ a, (k0_off92 v1909) a + S1x1024.size a ≤ S64x1024.size a := fun v1909 k0_hw62 => k0_hw62

def k0_off93 (v1910 : BitVec 32) : Fin 2 → Nat :=
  let v1922 : Index := Scalar.indexCast v1910
  let c0_456 : Index := 0#32
  ![v1922.toNat, 0]

def k0_chk61 (v1910 : BitVec 32) : Prop :=
  (∀ a, (k0_off91 v1910) a + S1x1024.size a ≤ S64x1024.size a) ∧
  (∀ a, (k0_off93 v1910) a + S1x1024.size a ≤ S64x1024.size a)
theorem k0_off91_inb : ∀ (v1910 : BitVec 32) (k0_hw61 : k0_chk61 v1910), ∀ a, (k0_off91 v1910) a + S1x1024.size a ≤ S64x1024.size a := fun v1910 k0_hw61 => k0_hw61.1
theorem k0_off93_inb : ∀ (v1910 : BitVec 32) (k0_hw61 : k0_chk61 v1910), ∀ a, (k0_off93 v1910) a + S1x1024.size a ≤ S64x1024.size a := fun v1910 k0_hw61 => k0_hw61.2

def k0_off94 (v1969 : BitVec 32) : Fin 2 → Nat :=
  let v1970 : Index := Scalar.indexCast v1969
  let c0_465 : Index := 0#32
  ![v1970.toNat, 0]

def k0_off95 (v1968 : BitVec 32) : Fin 2 → Nat :=
  let v1974 : Index := Scalar.indexCast v1968
  let c0_467 : Index := 0#32
  ![v1974.toNat, 0]

def k0_chk64 (v1968 : BitVec 32) : Prop :=
  (∀ a, (k0_off95 v1968) a + S1x1024.size a ≤ S64x1024.size a)
theorem k0_off95_inb : ∀ (v1968 : BitVec 32) (k0_hw64 : k0_chk64 v1968), ∀ a, (k0_off95 v1968) a + S1x1024.size a ≤ S64x1024.size a := fun v1968 k0_hw64 => k0_hw64

def k0_off96 (v1969 : BitVec 32) : Fin 2 → Nat :=
  let v1981 : Index := Scalar.indexCast v1969
  let c0_469 : Index := 0#32
  ![v1981.toNat, 0]

def k0_chk63 (v1969 : BitVec 32) : Prop :=
  (∀ a, (k0_off94 v1969) a + S1x1024.size a ≤ S64x1024.size a) ∧
  (∀ a, (k0_off96 v1969) a + S1x1024.size a ≤ S64x1024.size a)
theorem k0_off94_inb : ∀ (v1969 : BitVec 32) (k0_hw63 : k0_chk63 v1969), ∀ a, (k0_off94 v1969) a + S1x1024.size a ≤ S64x1024.size a := fun v1969 k0_hw63 => k0_hw63.1
theorem k0_off96_inb : ∀ (v1969 : BitVec 32) (k0_hw63 : k0_chk63 v1969), ∀ a, (k0_off96 v1969) a + S1x1024.size a ≤ S64x1024.size a := fun v1969 k0_hw63 => k0_hw63.2

def k0_off97 (v2033 : BitVec 32) : Fin 2 → Nat :=
  let v2034 : Index := Scalar.indexCast v2033
  let c0_481 : Index := 0#32
  ![v2034.toNat, 0]

def k0_off98 (v2032 : BitVec 32) : Fin 2 → Nat :=
  let v2038 : Index := Scalar.indexCast v2032
  let c0_483 : Index := 0#32
  ![v2038.toNat, 0]

def k0_chk66 (v2032 : BitVec 32) : Prop :=
  (∀ a, (k0_off98 v2032) a + S1x1024.size a ≤ S64x1024.size a)
theorem k0_off98_inb : ∀ (v2032 : BitVec 32) (k0_hw66 : k0_chk66 v2032), ∀ a, (k0_off98 v2032) a + S1x1024.size a ≤ S64x1024.size a := fun v2032 k0_hw66 => k0_hw66

def k0_off99 (v2033 : BitVec 32) : Fin 2 → Nat :=
  let v2045 : Index := Scalar.indexCast v2033
  let c0_485 : Index := 0#32
  ![v2045.toNat, 0]

def k0_chk65 (v2033 : BitVec 32) : Prop :=
  (∀ a, (k0_off97 v2033) a + S1x1024.size a ≤ S64x1024.size a) ∧
  (∀ a, (k0_off99 v2033) a + S1x1024.size a ≤ S64x1024.size a)
theorem k0_off97_inb : ∀ (v2033 : BitVec 32) (k0_hw65 : k0_chk65 v2033), ∀ a, (k0_off97 v2033) a + S1x1024.size a ≤ S64x1024.size a := fun v2033 k0_hw65 => k0_hw65.1
theorem k0_off99_inb : ∀ (v2033 : BitVec 32) (k0_hw65 : k0_chk65 v2033), ∀ a, (k0_off99 v2033) a + S1x1024.size a ≤ S64x1024.size a := fun v2033 k0_hw65 => k0_hw65.2

def k0_off100 (v2092 : BitVec 32) : Fin 2 → Nat :=
  let v2093 : Index := Scalar.indexCast v2092
  let c0_495 : Index := 0#32
  ![v2093.toNat, 0]

def k0_off101 (v2091 : BitVec 32) : Fin 2 → Nat :=
  let v2097 : Index := Scalar.indexCast v2091
  let c0_497 : Index := 0#32
  ![v2097.toNat, 0]

def k0_chk68 (v2091 : BitVec 32) : Prop :=
  (∀ a, (k0_off101 v2091) a + S1x1024.size a ≤ S64x1024.size a)
theorem k0_off101_inb : ∀ (v2091 : BitVec 32) (k0_hw68 : k0_chk68 v2091), ∀ a, (k0_off101 v2091) a + S1x1024.size a ≤ S64x1024.size a := fun v2091 k0_hw68 => k0_hw68

def k0_off102 (v2092 : BitVec 32) : Fin 2 → Nat :=
  let v2104 : Index := Scalar.indexCast v2092
  let c0_499 : Index := 0#32
  ![v2104.toNat, 0]

def k0_chk67 (v2092 : BitVec 32) : Prop :=
  (∀ a, (k0_off100 v2092) a + S1x1024.size a ≤ S64x1024.size a) ∧
  (∀ a, (k0_off102 v2092) a + S1x1024.size a ≤ S64x1024.size a)
theorem k0_off100_inb : ∀ (v2092 : BitVec 32) (k0_hw67 : k0_chk67 v2092), ∀ a, (k0_off100 v2092) a + S1x1024.size a ≤ S64x1024.size a := fun v2092 k0_hw67 => k0_hw67.1
theorem k0_off102_inb : ∀ (v2092 : BitVec 32) (k0_hw67 : k0_chk67 v2092), ∀ a, (k0_off102 v2092) a + S1x1024.size a ≤ S64x1024.size a := fun v2092 k0_hw67 => k0_hw67.2

def k0_off103 (v2156 : BitVec 32) : Fin 2 → Nat :=
  let v2157 : Index := Scalar.indexCast v2156
  let c0_510 : Index := 0#32
  ![v2157.toNat, 0]

def k0_off104 (v2155 : BitVec 32) : Fin 2 → Nat :=
  let v2161 : Index := Scalar.indexCast v2155
  let c0_512 : Index := 0#32
  ![v2161.toNat, 0]

def k0_chk70 (v2155 : BitVec 32) : Prop :=
  (∀ a, (k0_off104 v2155) a + S1x1024.size a ≤ S64x1024.size a)
theorem k0_off104_inb : ∀ (v2155 : BitVec 32) (k0_hw70 : k0_chk70 v2155), ∀ a, (k0_off104 v2155) a + S1x1024.size a ≤ S64x1024.size a := fun v2155 k0_hw70 => k0_hw70

def k0_off105 (v2156 : BitVec 32) : Fin 2 → Nat :=
  let v2168 : Index := Scalar.indexCast v2156
  let c0_514 : Index := 0#32
  ![v2168.toNat, 0]

def k0_chk69 (v2156 : BitVec 32) : Prop :=
  (∀ a, (k0_off103 v2156) a + S1x1024.size a ≤ S64x1024.size a) ∧
  (∀ a, (k0_off105 v2156) a + S1x1024.size a ≤ S64x1024.size a)
theorem k0_off103_inb : ∀ (v2156 : BitVec 32) (k0_hw69 : k0_chk69 v2156), ∀ a, (k0_off103 v2156) a + S1x1024.size a ≤ S64x1024.size a := fun v2156 k0_hw69 => k0_hw69.1
theorem k0_off105_inb : ∀ (v2156 : BitVec 32) (k0_hw69 : k0_chk69 v2156), ∀ a, (k0_off105 v2156) a + S1x1024.size a ≤ S64x1024.size a := fun v2156 k0_hw69 => k0_hw69.2

def k0_off106 (v2215 : BitVec 32) : Fin 2 → Nat :=
  let v2216 : Index := Scalar.indexCast v2215
  let c0_523 : Index := 0#32
  ![v2216.toNat, 0]

def k0_off107 (v2214 : BitVec 32) : Fin 2 → Nat :=
  let v2220 : Index := Scalar.indexCast v2214
  let c0_525 : Index := 0#32
  ![v2220.toNat, 0]

def k0_chk72 (v2214 : BitVec 32) : Prop :=
  (∀ a, (k0_off107 v2214) a + S1x1024.size a ≤ S64x1024.size a)
theorem k0_off107_inb : ∀ (v2214 : BitVec 32) (k0_hw72 : k0_chk72 v2214), ∀ a, (k0_off107 v2214) a + S1x1024.size a ≤ S64x1024.size a := fun v2214 k0_hw72 => k0_hw72

def k0_off108 (v2215 : BitVec 32) : Fin 2 → Nat :=
  let v2227 : Index := Scalar.indexCast v2215
  let c0_527 : Index := 0#32
  ![v2227.toNat, 0]

def k0_chk71 (v2215 : BitVec 32) : Prop :=
  (∀ a, (k0_off106 v2215) a + S1x1024.size a ≤ S64x1024.size a) ∧
  (∀ a, (k0_off108 v2215) a + S1x1024.size a ≤ S64x1024.size a)
theorem k0_off106_inb : ∀ (v2215 : BitVec 32) (k0_hw71 : k0_chk71 v2215), ∀ a, (k0_off106 v2215) a + S1x1024.size a ≤ S64x1024.size a := fun v2215 k0_hw71 => k0_hw71.1
theorem k0_off108_inb : ∀ (v2215 : BitVec 32) (k0_hw71 : k0_chk71 v2215), ∀ a, (k0_off108 v2215) a + S1x1024.size a ≤ S64x1024.size a := fun v2215 k0_hw71 => k0_hw71.2

def k0_off109 (v2279 : BitVec 32) : Fin 2 → Nat :=
  let v2280 : Index := Scalar.indexCast v2279
  let c0_538 : Index := 0#32
  ![v2280.toNat, 0]

def k0_off110 (v2278 : BitVec 32) : Fin 2 → Nat :=
  let v2284 : Index := Scalar.indexCast v2278
  let c0_540 : Index := 0#32
  ![v2284.toNat, 0]

def k0_chk74 (v2278 : BitVec 32) : Prop :=
  (∀ a, (k0_off110 v2278) a + S1x1024.size a ≤ S64x1024.size a)
theorem k0_off110_inb : ∀ (v2278 : BitVec 32) (k0_hw74 : k0_chk74 v2278), ∀ a, (k0_off110 v2278) a + S1x1024.size a ≤ S64x1024.size a := fun v2278 k0_hw74 => k0_hw74

def k0_off111 (v2279 : BitVec 32) : Fin 2 → Nat :=
  let v2291 : Index := Scalar.indexCast v2279
  let c0_542 : Index := 0#32
  ![v2291.toNat, 0]

def k0_chk73 (v2279 : BitVec 32) : Prop :=
  (∀ a, (k0_off109 v2279) a + S1x1024.size a ≤ S64x1024.size a) ∧
  (∀ a, (k0_off111 v2279) a + S1x1024.size a ≤ S64x1024.size a)
theorem k0_off109_inb : ∀ (v2279 : BitVec 32) (k0_hw73 : k0_chk73 v2279), ∀ a, (k0_off109 v2279) a + S1x1024.size a ≤ S64x1024.size a := fun v2279 k0_hw73 => k0_hw73.1
theorem k0_off111_inb : ∀ (v2279 : BitVec 32) (k0_hw73 : k0_chk73 v2279), ∀ a, (k0_off111 v2279) a + S1x1024.size a ≤ S64x1024.size a := fun v2279 k0_hw73 => k0_hw73.2

def k0_off112 (v2338 : BitVec 32) : Fin 2 → Nat :=
  let v2339 : Index := Scalar.indexCast v2338
  let c0_552 : Index := 0#32
  ![v2339.toNat, 0]

def k0_off113 (v2337 : BitVec 32) : Fin 2 → Nat :=
  let v2343 : Index := Scalar.indexCast v2337
  let c0_554 : Index := 0#32
  ![v2343.toNat, 0]

def k0_chk76 (v2337 : BitVec 32) : Prop :=
  (∀ a, (k0_off113 v2337) a + S1x1024.size a ≤ S64x1024.size a)
theorem k0_off113_inb : ∀ (v2337 : BitVec 32) (k0_hw76 : k0_chk76 v2337), ∀ a, (k0_off113 v2337) a + S1x1024.size a ≤ S64x1024.size a := fun v2337 k0_hw76 => k0_hw76

def k0_off114 (v2338 : BitVec 32) : Fin 2 → Nat :=
  let v2350 : Index := Scalar.indexCast v2338
  let c0_556 : Index := 0#32
  ![v2350.toNat, 0]

def k0_chk75 (v2338 : BitVec 32) : Prop :=
  (∀ a, (k0_off112 v2338) a + S1x1024.size a ≤ S64x1024.size a) ∧
  (∀ a, (k0_off114 v2338) a + S1x1024.size a ≤ S64x1024.size a)
theorem k0_off112_inb : ∀ (v2338 : BitVec 32) (k0_hw75 : k0_chk75 v2338), ∀ a, (k0_off112 v2338) a + S1x1024.size a ≤ S64x1024.size a := fun v2338 k0_hw75 => k0_hw75.1
theorem k0_off114_inb : ∀ (v2338 : BitVec 32) (k0_hw75 : k0_chk75 v2338), ∀ a, (k0_off114 v2338) a + S1x1024.size a ≤ S64x1024.size a := fun v2338 k0_hw75 => k0_hw75.2

def k0_off115 (v2402 : BitVec 32) : Fin 2 → Nat :=
  let v2403 : Index := Scalar.indexCast v2402
  let c0_567 : Index := 0#32
  ![v2403.toNat, 0]

def k0_off116 (v2401 : BitVec 32) : Fin 2 → Nat :=
  let v2407 : Index := Scalar.indexCast v2401
  let c0_569 : Index := 0#32
  ![v2407.toNat, 0]

def k0_chk78 (v2401 : BitVec 32) : Prop :=
  (∀ a, (k0_off116 v2401) a + S1x1024.size a ≤ S64x1024.size a)
theorem k0_off116_inb : ∀ (v2401 : BitVec 32) (k0_hw78 : k0_chk78 v2401), ∀ a, (k0_off116 v2401) a + S1x1024.size a ≤ S64x1024.size a := fun v2401 k0_hw78 => k0_hw78

def k0_off117 (v2402 : BitVec 32) : Fin 2 → Nat :=
  let v2414 : Index := Scalar.indexCast v2402
  let c0_571 : Index := 0#32
  ![v2414.toNat, 0]

def k0_chk77 (v2402 : BitVec 32) : Prop :=
  (∀ a, (k0_off115 v2402) a + S1x1024.size a ≤ S64x1024.size a) ∧
  (∀ a, (k0_off117 v2402) a + S1x1024.size a ≤ S64x1024.size a)
theorem k0_off115_inb : ∀ (v2402 : BitVec 32) (k0_hw77 : k0_chk77 v2402), ∀ a, (k0_off115 v2402) a + S1x1024.size a ≤ S64x1024.size a := fun v2402 k0_hw77 => k0_hw77.1
theorem k0_off117_inb : ∀ (v2402 : BitVec 32) (k0_hw77 : k0_chk77 v2402), ∀ a, (k0_off117 v2402) a + S1x1024.size a ≤ S64x1024.size a := fun v2402 k0_hw77 => k0_hw77.2

def k0_off118 (v2461 : BitVec 32) : Fin 2 → Nat :=
  let v2462 : Index := Scalar.indexCast v2461
  let c0_580 : Index := 0#32
  ![v2462.toNat, 0]

def k0_off119 (v2460 : BitVec 32) : Fin 2 → Nat :=
  let v2466 : Index := Scalar.indexCast v2460
  let c0_582 : Index := 0#32
  ![v2466.toNat, 0]

def k0_chk80 (v2460 : BitVec 32) : Prop :=
  (∀ a, (k0_off119 v2460) a + S1x1024.size a ≤ S64x1024.size a)
theorem k0_off119_inb : ∀ (v2460 : BitVec 32) (k0_hw80 : k0_chk80 v2460), ∀ a, (k0_off119 v2460) a + S1x1024.size a ≤ S64x1024.size a := fun v2460 k0_hw80 => k0_hw80

def k0_off120 (v2461 : BitVec 32) : Fin 2 → Nat :=
  let v2473 : Index := Scalar.indexCast v2461
  let c0_584 : Index := 0#32
  ![v2473.toNat, 0]

def k0_chk79 (v2461 : BitVec 32) : Prop :=
  (∀ a, (k0_off118 v2461) a + S1x1024.size a ≤ S64x1024.size a) ∧
  (∀ a, (k0_off120 v2461) a + S1x1024.size a ≤ S64x1024.size a)
theorem k0_off118_inb : ∀ (v2461 : BitVec 32) (k0_hw79 : k0_chk79 v2461), ∀ a, (k0_off118 v2461) a + S1x1024.size a ≤ S64x1024.size a := fun v2461 k0_hw79 => k0_hw79.1
theorem k0_off120_inb : ∀ (v2461 : BitVec 32) (k0_hw79 : k0_chk79 v2461), ∀ a, (k0_off120 v2461) a + S1x1024.size a ≤ S64x1024.size a := fun v2461 k0_hw79 => k0_hw79.2

def k0_off121 (v2525 : BitVec 32) : Fin 2 → Nat :=
  let v2526 : Index := Scalar.indexCast v2525
  let c0_595 : Index := 0#32
  ![v2526.toNat, 0]

def k0_off122 (v2524 : BitVec 32) : Fin 2 → Nat :=
  let v2530 : Index := Scalar.indexCast v2524
  let c0_597 : Index := 0#32
  ![v2530.toNat, 0]

def k0_chk82 (v2524 : BitVec 32) : Prop :=
  (∀ a, (k0_off122 v2524) a + S1x1024.size a ≤ S64x1024.size a)
theorem k0_off122_inb : ∀ (v2524 : BitVec 32) (k0_hw82 : k0_chk82 v2524), ∀ a, (k0_off122 v2524) a + S1x1024.size a ≤ S64x1024.size a := fun v2524 k0_hw82 => k0_hw82

def k0_off123 (v2525 : BitVec 32) : Fin 2 → Nat :=
  let v2537 : Index := Scalar.indexCast v2525
  let c0_599 : Index := 0#32
  ![v2537.toNat, 0]

def k0_chk81 (v2525 : BitVec 32) : Prop :=
  (∀ a, (k0_off121 v2525) a + S1x1024.size a ≤ S64x1024.size a) ∧
  (∀ a, (k0_off123 v2525) a + S1x1024.size a ≤ S64x1024.size a)
theorem k0_off121_inb : ∀ (v2525 : BitVec 32) (k0_hw81 : k0_chk81 v2525), ∀ a, (k0_off121 v2525) a + S1x1024.size a ≤ S64x1024.size a := fun v2525 k0_hw81 => k0_hw81.1
theorem k0_off123_inb : ∀ (v2525 : BitVec 32) (k0_hw81 : k0_chk81 v2525), ∀ a, (k0_off123 v2525) a + S1x1024.size a ≤ S64x1024.size a := fun v2525 k0_hw81 => k0_hw81.2

def k0_off124 (v2584 : BitVec 32) : Fin 2 → Nat :=
  let v2585 : Index := Scalar.indexCast v2584
  let c0_609 : Index := 0#32
  ![v2585.toNat, 0]

def k0_off125 (v2583 : BitVec 32) : Fin 2 → Nat :=
  let v2589 : Index := Scalar.indexCast v2583
  let c0_611 : Index := 0#32
  ![v2589.toNat, 0]

def k0_chk84 (v2583 : BitVec 32) : Prop :=
  (∀ a, (k0_off125 v2583) a + S1x1024.size a ≤ S64x1024.size a)
theorem k0_off125_inb : ∀ (v2583 : BitVec 32) (k0_hw84 : k0_chk84 v2583), ∀ a, (k0_off125 v2583) a + S1x1024.size a ≤ S64x1024.size a := fun v2583 k0_hw84 => k0_hw84

def k0_off126 (v2584 : BitVec 32) : Fin 2 → Nat :=
  let v2596 : Index := Scalar.indexCast v2584
  let c0_613 : Index := 0#32
  ![v2596.toNat, 0]

def k0_chk83 (v2584 : BitVec 32) : Prop :=
  (∀ a, (k0_off124 v2584) a + S1x1024.size a ≤ S64x1024.size a) ∧
  (∀ a, (k0_off126 v2584) a + S1x1024.size a ≤ S64x1024.size a)
theorem k0_off124_inb : ∀ (v2584 : BitVec 32) (k0_hw83 : k0_chk83 v2584), ∀ a, (k0_off124 v2584) a + S1x1024.size a ≤ S64x1024.size a := fun v2584 k0_hw83 => k0_hw83.1
theorem k0_off126_inb : ∀ (v2584 : BitVec 32) (k0_hw83 : k0_chk83 v2584), ∀ a, (k0_off126 v2584) a + S1x1024.size a ≤ S64x1024.size a := fun v2584 k0_hw83 => k0_hw83.2

def k0_off127 (v2648 : BitVec 32) : Fin 2 → Nat :=
  let v2649 : Index := Scalar.indexCast v2648
  let c0_624 : Index := 0#32
  ![v2649.toNat, 0]

def k0_off128 (v2647 : BitVec 32) : Fin 2 → Nat :=
  let v2653 : Index := Scalar.indexCast v2647
  let c0_626 : Index := 0#32
  ![v2653.toNat, 0]

def k0_chk86 (v2647 : BitVec 32) : Prop :=
  (∀ a, (k0_off128 v2647) a + S1x1024.size a ≤ S64x1024.size a)
theorem k0_off128_inb : ∀ (v2647 : BitVec 32) (k0_hw86 : k0_chk86 v2647), ∀ a, (k0_off128 v2647) a + S1x1024.size a ≤ S64x1024.size a := fun v2647 k0_hw86 => k0_hw86

def k0_off129 (v2648 : BitVec 32) : Fin 2 → Nat :=
  let v2660 : Index := Scalar.indexCast v2648
  let c0_628 : Index := 0#32
  ![v2660.toNat, 0]

def k0_chk85 (v2648 : BitVec 32) : Prop :=
  (∀ a, (k0_off127 v2648) a + S1x1024.size a ≤ S64x1024.size a) ∧
  (∀ a, (k0_off129 v2648) a + S1x1024.size a ≤ S64x1024.size a)
theorem k0_off127_inb : ∀ (v2648 : BitVec 32) (k0_hw85 : k0_chk85 v2648), ∀ a, (k0_off127 v2648) a + S1x1024.size a ≤ S64x1024.size a := fun v2648 k0_hw85 => k0_hw85.1
theorem k0_off129_inb : ∀ (v2648 : BitVec 32) (k0_hw85 : k0_chk85 v2648), ∀ a, (k0_off129 v2648) a + S1x1024.size a ≤ S64x1024.size a := fun v2648 k0_hw85 => k0_hw85.2

def k0_off130 (v2707 : BitVec 32) : Fin 2 → Nat :=
  let v2708 : Index := Scalar.indexCast v2707
  let c0_637 : Index := 0#32
  ![v2708.toNat, 0]

def k0_off131 (v2706 : BitVec 32) : Fin 2 → Nat :=
  let v2712 : Index := Scalar.indexCast v2706
  let c0_639 : Index := 0#32
  ![v2712.toNat, 0]

def k0_chk88 (v2706 : BitVec 32) : Prop :=
  (∀ a, (k0_off131 v2706) a + S1x1024.size a ≤ S64x1024.size a)
theorem k0_off131_inb : ∀ (v2706 : BitVec 32) (k0_hw88 : k0_chk88 v2706), ∀ a, (k0_off131 v2706) a + S1x1024.size a ≤ S64x1024.size a := fun v2706 k0_hw88 => k0_hw88

def k0_off132 (v2707 : BitVec 32) : Fin 2 → Nat :=
  let v2719 : Index := Scalar.indexCast v2707
  let c0_641 : Index := 0#32
  ![v2719.toNat, 0]

def k0_chk87 (v2707 : BitVec 32) : Prop :=
  (∀ a, (k0_off130 v2707) a + S1x1024.size a ≤ S64x1024.size a) ∧
  (∀ a, (k0_off132 v2707) a + S1x1024.size a ≤ S64x1024.size a)
theorem k0_off130_inb : ∀ (v2707 : BitVec 32) (k0_hw87 : k0_chk87 v2707), ∀ a, (k0_off130 v2707) a + S1x1024.size a ≤ S64x1024.size a := fun v2707 k0_hw87 => k0_hw87.1
theorem k0_off132_inb : ∀ (v2707 : BitVec 32) (k0_hw87 : k0_chk87 v2707), ∀ a, (k0_off132 v2707) a + S1x1024.size a ≤ S64x1024.size a := fun v2707 k0_hw87 => k0_hw87.2

def k0_off133 (v2771 : BitVec 32) : Fin 2 → Nat :=
  let v2772 : Index := Scalar.indexCast v2771
  let c0_652 : Index := 0#32
  ![v2772.toNat, 0]

def k0_off134 (v2770 : BitVec 32) : Fin 2 → Nat :=
  let v2776 : Index := Scalar.indexCast v2770
  let c0_654 : Index := 0#32
  ![v2776.toNat, 0]

def k0_chk90 (v2770 : BitVec 32) : Prop :=
  (∀ a, (k0_off134 v2770) a + S1x1024.size a ≤ S64x1024.size a)
theorem k0_off134_inb : ∀ (v2770 : BitVec 32) (k0_hw90 : k0_chk90 v2770), ∀ a, (k0_off134 v2770) a + S1x1024.size a ≤ S64x1024.size a := fun v2770 k0_hw90 => k0_hw90

def k0_off135 (v2771 : BitVec 32) : Fin 2 → Nat :=
  let v2783 : Index := Scalar.indexCast v2771
  let c0_656 : Index := 0#32
  ![v2783.toNat, 0]

def k0_chk89 (v2771 : BitVec 32) : Prop :=
  (∀ a, (k0_off133 v2771) a + S1x1024.size a ≤ S64x1024.size a) ∧
  (∀ a, (k0_off135 v2771) a + S1x1024.size a ≤ S64x1024.size a)
theorem k0_off133_inb : ∀ (v2771 : BitVec 32) (k0_hw89 : k0_chk89 v2771), ∀ a, (k0_off133 v2771) a + S1x1024.size a ≤ S64x1024.size a := fun v2771 k0_hw89 => k0_hw89.1
theorem k0_off135_inb : ∀ (v2771 : BitVec 32) (k0_hw89 : k0_chk89 v2771), ∀ a, (k0_off135 v2771) a + S1x1024.size a ≤ S64x1024.size a := fun v2771 k0_hw89 => k0_hw89.2

def k0_off136 (v2830 : BitVec 32) : Fin 2 → Nat :=
  let v2831 : Index := Scalar.indexCast v2830
  let c0_666 : Index := 0#32
  ![v2831.toNat, 0]

def k0_off137 (v2829 : BitVec 32) : Fin 2 → Nat :=
  let v2835 : Index := Scalar.indexCast v2829
  let c0_668 : Index := 0#32
  ![v2835.toNat, 0]

def k0_chk92 (v2829 : BitVec 32) : Prop :=
  (∀ a, (k0_off137 v2829) a + S1x1024.size a ≤ S64x1024.size a)
theorem k0_off137_inb : ∀ (v2829 : BitVec 32) (k0_hw92 : k0_chk92 v2829), ∀ a, (k0_off137 v2829) a + S1x1024.size a ≤ S64x1024.size a := fun v2829 k0_hw92 => k0_hw92

def k0_off138 (v2830 : BitVec 32) : Fin 2 → Nat :=
  let v2842 : Index := Scalar.indexCast v2830
  let c0_670 : Index := 0#32
  ![v2842.toNat, 0]

def k0_chk91 (v2830 : BitVec 32) : Prop :=
  (∀ a, (k0_off136 v2830) a + S1x1024.size a ≤ S64x1024.size a) ∧
  (∀ a, (k0_off138 v2830) a + S1x1024.size a ≤ S64x1024.size a)
theorem k0_off136_inb : ∀ (v2830 : BitVec 32) (k0_hw91 : k0_chk91 v2830), ∀ a, (k0_off136 v2830) a + S1x1024.size a ≤ S64x1024.size a := fun v2830 k0_hw91 => k0_hw91.1
theorem k0_off138_inb : ∀ (v2830 : BitVec 32) (k0_hw91 : k0_chk91 v2830), ∀ a, (k0_off138 v2830) a + S1x1024.size a ≤ S64x1024.size a := fun v2830 k0_hw91 => k0_hw91.2

def k0_off139 (v2894 : BitVec 32) : Fin 2 → Nat :=
  let v2895 : Index := Scalar.indexCast v2894
  let c0_681 : Index := 0#32
  ![v2895.toNat, 0]

def k0_off140 (v2893 : BitVec 32) : Fin 2 → Nat :=
  let v2899 : Index := Scalar.indexCast v2893
  let c0_683 : Index := 0#32
  ![v2899.toNat, 0]

def k0_chk94 (v2893 : BitVec 32) : Prop :=
  (∀ a, (k0_off140 v2893) a + S1x1024.size a ≤ S64x1024.size a)
theorem k0_off140_inb : ∀ (v2893 : BitVec 32) (k0_hw94 : k0_chk94 v2893), ∀ a, (k0_off140 v2893) a + S1x1024.size a ≤ S64x1024.size a := fun v2893 k0_hw94 => k0_hw94

def k0_off141 (v2894 : BitVec 32) : Fin 2 → Nat :=
  let v2906 : Index := Scalar.indexCast v2894
  let c0_685 : Index := 0#32
  ![v2906.toNat, 0]

def k0_chk93 (v2894 : BitVec 32) : Prop :=
  (∀ a, (k0_off139 v2894) a + S1x1024.size a ≤ S64x1024.size a) ∧
  (∀ a, (k0_off141 v2894) a + S1x1024.size a ≤ S64x1024.size a)
theorem k0_off139_inb : ∀ (v2894 : BitVec 32) (k0_hw93 : k0_chk93 v2894), ∀ a, (k0_off139 v2894) a + S1x1024.size a ≤ S64x1024.size a := fun v2894 k0_hw93 => k0_hw93.1
theorem k0_off141_inb : ∀ (v2894 : BitVec 32) (k0_hw93 : k0_chk93 v2894), ∀ a, (k0_off141 v2894) a + S1x1024.size a ≤ S64x1024.size a := fun v2894 k0_hw93 => k0_hw93.2

def k0_off142 (v2953 : BitVec 32) : Fin 2 → Nat :=
  let v2954 : Index := Scalar.indexCast v2953
  let c0_694 : Index := 0#32
  ![v2954.toNat, 0]

def k0_off143 (v2952 : BitVec 32) : Fin 2 → Nat :=
  let v2958 : Index := Scalar.indexCast v2952
  let c0_696 : Index := 0#32
  ![v2958.toNat, 0]

def k0_chk96 (v2952 : BitVec 32) : Prop :=
  (∀ a, (k0_off143 v2952) a + S1x1024.size a ≤ S64x1024.size a)
theorem k0_off143_inb : ∀ (v2952 : BitVec 32) (k0_hw96 : k0_chk96 v2952), ∀ a, (k0_off143 v2952) a + S1x1024.size a ≤ S64x1024.size a := fun v2952 k0_hw96 => k0_hw96

def k0_off144 (v2953 : BitVec 32) : Fin 2 → Nat :=
  let v2965 : Index := Scalar.indexCast v2953
  let c0_698 : Index := 0#32
  ![v2965.toNat, 0]

def k0_chk95 (v2953 : BitVec 32) : Prop :=
  (∀ a, (k0_off142 v2953) a + S1x1024.size a ≤ S64x1024.size a) ∧
  (∀ a, (k0_off144 v2953) a + S1x1024.size a ≤ S64x1024.size a)
theorem k0_off142_inb : ∀ (v2953 : BitVec 32) (k0_hw95 : k0_chk95 v2953), ∀ a, (k0_off142 v2953) a + S1x1024.size a ≤ S64x1024.size a := fun v2953 k0_hw95 => k0_hw95.1
theorem k0_off144_inb : ∀ (v2953 : BitVec 32) (k0_hw95 : k0_chk95 v2953), ∀ a, (k0_off144 v2953) a + S1x1024.size a ≤ S64x1024.size a := fun v2953 k0_hw95 => k0_hw95.2

def k0_off145 (v3017 : BitVec 32) : Fin 2 → Nat :=
  let v3018 : Index := Scalar.indexCast v3017
  let c0_709 : Index := 0#32
  ![v3018.toNat, 0]

def k0_off146 (v3016 : BitVec 32) : Fin 2 → Nat :=
  let v3022 : Index := Scalar.indexCast v3016
  let c0_711 : Index := 0#32
  ![v3022.toNat, 0]

def k0_chk98 (v3016 : BitVec 32) : Prop :=
  (∀ a, (k0_off146 v3016) a + S1x1024.size a ≤ S64x1024.size a)
theorem k0_off146_inb : ∀ (v3016 : BitVec 32) (k0_hw98 : k0_chk98 v3016), ∀ a, (k0_off146 v3016) a + S1x1024.size a ≤ S64x1024.size a := fun v3016 k0_hw98 => k0_hw98

def k0_off147 (v3017 : BitVec 32) : Fin 2 → Nat :=
  let v3029 : Index := Scalar.indexCast v3017
  let c0_713 : Index := 0#32
  ![v3029.toNat, 0]

def k0_chk97 (v3017 : BitVec 32) : Prop :=
  (∀ a, (k0_off145 v3017) a + S1x1024.size a ≤ S64x1024.size a) ∧
  (∀ a, (k0_off147 v3017) a + S1x1024.size a ≤ S64x1024.size a)
theorem k0_off145_inb : ∀ (v3017 : BitVec 32) (k0_hw97 : k0_chk97 v3017), ∀ a, (k0_off145 v3017) a + S1x1024.size a ≤ S64x1024.size a := fun v3017 k0_hw97 => k0_hw97.1
theorem k0_off147_inb : ∀ (v3017 : BitVec 32) (k0_hw97 : k0_chk97 v3017), ∀ a, (k0_off147 v3017) a + S1x1024.size a ≤ S64x1024.size a := fun v3017 k0_hw97 => k0_hw97.2

def k0_off148 (v3076 : BitVec 32) : Fin 2 → Nat :=
  let v3077 : Index := Scalar.indexCast v3076
  let c0_723 : Index := 0#32
  ![v3077.toNat, 0]

def k0_off149 (v3075 : BitVec 32) : Fin 2 → Nat :=
  let v3081 : Index := Scalar.indexCast v3075
  let c0_725 : Index := 0#32
  ![v3081.toNat, 0]

def k0_chk100 (v3075 : BitVec 32) : Prop :=
  (∀ a, (k0_off149 v3075) a + S1x1024.size a ≤ S64x1024.size a)
theorem k0_off149_inb : ∀ (v3075 : BitVec 32) (k0_hw100 : k0_chk100 v3075), ∀ a, (k0_off149 v3075) a + S1x1024.size a ≤ S64x1024.size a := fun v3075 k0_hw100 => k0_hw100

def k0_off150 (v3076 : BitVec 32) : Fin 2 → Nat :=
  let v3088 : Index := Scalar.indexCast v3076
  let c0_727 : Index := 0#32
  ![v3088.toNat, 0]

def k0_chk99 (v3076 : BitVec 32) : Prop :=
  (∀ a, (k0_off148 v3076) a + S1x1024.size a ≤ S64x1024.size a) ∧
  (∀ a, (k0_off150 v3076) a + S1x1024.size a ≤ S64x1024.size a)
theorem k0_off148_inb : ∀ (v3076 : BitVec 32) (k0_hw99 : k0_chk99 v3076), ∀ a, (k0_off148 v3076) a + S1x1024.size a ≤ S64x1024.size a := fun v3076 k0_hw99 => k0_hw99.1
theorem k0_off150_inb : ∀ (v3076 : BitVec 32) (k0_hw99 : k0_chk99 v3076), ∀ a, (k0_off150 v3076) a + S1x1024.size a ≤ S64x1024.size a := fun v3076 k0_hw99 => k0_hw99.2

def k0_off151 (v3140 : BitVec 32) : Fin 2 → Nat :=
  let v3141 : Index := Scalar.indexCast v3140
  let c0_738 : Index := 0#32
  ![v3141.toNat, 0]

def k0_off152 (v3139 : BitVec 32) : Fin 2 → Nat :=
  let v3145 : Index := Scalar.indexCast v3139
  let c0_740 : Index := 0#32
  ![v3145.toNat, 0]

def k0_chk102 (v3139 : BitVec 32) : Prop :=
  (∀ a, (k0_off152 v3139) a + S1x1024.size a ≤ S64x1024.size a)
theorem k0_off152_inb : ∀ (v3139 : BitVec 32) (k0_hw102 : k0_chk102 v3139), ∀ a, (k0_off152 v3139) a + S1x1024.size a ≤ S64x1024.size a := fun v3139 k0_hw102 => k0_hw102

def k0_off153 (v3140 : BitVec 32) : Fin 2 → Nat :=
  let v3152 : Index := Scalar.indexCast v3140
  let c0_742 : Index := 0#32
  ![v3152.toNat, 0]

def k0_chk101 (v3140 : BitVec 32) : Prop :=
  (∀ a, (k0_off151 v3140) a + S1x1024.size a ≤ S64x1024.size a) ∧
  (∀ a, (k0_off153 v3140) a + S1x1024.size a ≤ S64x1024.size a)
theorem k0_off151_inb : ∀ (v3140 : BitVec 32) (k0_hw101 : k0_chk101 v3140), ∀ a, (k0_off151 v3140) a + S1x1024.size a ≤ S64x1024.size a := fun v3140 k0_hw101 => k0_hw101.1
theorem k0_off153_inb : ∀ (v3140 : BitVec 32) (k0_hw101 : k0_chk101 v3140), ∀ a, (k0_off153 v3140) a + S1x1024.size a ≤ S64x1024.size a := fun v3140 k0_hw101 => k0_hw101.2

def k0_off154 (v3199 : BitVec 32) : Fin 2 → Nat :=
  let v3200 : Index := Scalar.indexCast v3199
  let c0_751 : Index := 0#32
  ![v3200.toNat, 0]

def k0_off155 (v3198 : BitVec 32) : Fin 2 → Nat :=
  let v3204 : Index := Scalar.indexCast v3198
  let c0_753 : Index := 0#32
  ![v3204.toNat, 0]

def k0_chk104 (v3198 : BitVec 32) : Prop :=
  (∀ a, (k0_off155 v3198) a + S1x1024.size a ≤ S64x1024.size a)
theorem k0_off155_inb : ∀ (v3198 : BitVec 32) (k0_hw104 : k0_chk104 v3198), ∀ a, (k0_off155 v3198) a + S1x1024.size a ≤ S64x1024.size a := fun v3198 k0_hw104 => k0_hw104

def k0_off156 (v3199 : BitVec 32) : Fin 2 → Nat :=
  let v3211 : Index := Scalar.indexCast v3199
  let c0_755 : Index := 0#32
  ![v3211.toNat, 0]

def k0_chk103 (v3199 : BitVec 32) : Prop :=
  (∀ a, (k0_off154 v3199) a + S1x1024.size a ≤ S64x1024.size a) ∧
  (∀ a, (k0_off156 v3199) a + S1x1024.size a ≤ S64x1024.size a)
theorem k0_off154_inb : ∀ (v3199 : BitVec 32) (k0_hw103 : k0_chk103 v3199), ∀ a, (k0_off154 v3199) a + S1x1024.size a ≤ S64x1024.size a := fun v3199 k0_hw103 => k0_hw103.1
theorem k0_off156_inb : ∀ (v3199 : BitVec 32) (k0_hw103 : k0_chk103 v3199), ∀ a, (k0_off156 v3199) a + S1x1024.size a ≤ S64x1024.size a := fun v3199 k0_hw103 => k0_hw103.2

def k0_off157 (v3263 : BitVec 32) : Fin 2 → Nat :=
  let v3264 : Index := Scalar.indexCast v3263
  let c0_766 : Index := 0#32
  ![v3264.toNat, 0]

def k0_off158 (v3262 : BitVec 32) : Fin 2 → Nat :=
  let v3268 : Index := Scalar.indexCast v3262
  let c0_768 : Index := 0#32
  ![v3268.toNat, 0]

def k0_chk106 (v3262 : BitVec 32) : Prop :=
  (∀ a, (k0_off158 v3262) a + S1x1024.size a ≤ S64x1024.size a)
theorem k0_off158_inb : ∀ (v3262 : BitVec 32) (k0_hw106 : k0_chk106 v3262), ∀ a, (k0_off158 v3262) a + S1x1024.size a ≤ S64x1024.size a := fun v3262 k0_hw106 => k0_hw106

def k0_off159 (v3263 : BitVec 32) : Fin 2 → Nat :=
  let v3275 : Index := Scalar.indexCast v3263
  let c0_770 : Index := 0#32
  ![v3275.toNat, 0]

def k0_chk105 (v3263 : BitVec 32) : Prop :=
  (∀ a, (k0_off157 v3263) a + S1x1024.size a ≤ S64x1024.size a) ∧
  (∀ a, (k0_off159 v3263) a + S1x1024.size a ≤ S64x1024.size a)
theorem k0_off157_inb : ∀ (v3263 : BitVec 32) (k0_hw105 : k0_chk105 v3263), ∀ a, (k0_off157 v3263) a + S1x1024.size a ≤ S64x1024.size a := fun v3263 k0_hw105 => k0_hw105.1
theorem k0_off159_inb : ∀ (v3263 : BitVec 32) (k0_hw105 : k0_chk105 v3263), ∀ a, (k0_off159 v3263) a + S1x1024.size a ≤ S64x1024.size a := fun v3263 k0_hw105 => k0_hw105.2

def k0_off160 (v3322 : BitVec 32) : Fin 2 → Nat :=
  let v3323 : Index := Scalar.indexCast v3322
  let c0_780 : Index := 0#32
  ![v3323.toNat, 0]

def k0_off161 (v3321 : BitVec 32) : Fin 2 → Nat :=
  let v3327 : Index := Scalar.indexCast v3321
  let c0_782 : Index := 0#32
  ![v3327.toNat, 0]

def k0_chk108 (v3321 : BitVec 32) : Prop :=
  (∀ a, (k0_off161 v3321) a + S1x1024.size a ≤ S64x1024.size a)
theorem k0_off161_inb : ∀ (v3321 : BitVec 32) (k0_hw108 : k0_chk108 v3321), ∀ a, (k0_off161 v3321) a + S1x1024.size a ≤ S64x1024.size a := fun v3321 k0_hw108 => k0_hw108

def k0_off162 (v3322 : BitVec 32) : Fin 2 → Nat :=
  let v3334 : Index := Scalar.indexCast v3322
  let c0_784 : Index := 0#32
  ![v3334.toNat, 0]

def k0_chk107 (v3322 : BitVec 32) : Prop :=
  (∀ a, (k0_off160 v3322) a + S1x1024.size a ≤ S64x1024.size a) ∧
  (∀ a, (k0_off162 v3322) a + S1x1024.size a ≤ S64x1024.size a)
theorem k0_off160_inb : ∀ (v3322 : BitVec 32) (k0_hw107 : k0_chk107 v3322), ∀ a, (k0_off160 v3322) a + S1x1024.size a ≤ S64x1024.size a := fun v3322 k0_hw107 => k0_hw107.1
theorem k0_off162_inb : ∀ (v3322 : BitVec 32) (k0_hw107 : k0_chk107 v3322), ∀ a, (k0_off162 v3322) a + S1x1024.size a ≤ S64x1024.size a := fun v3322 k0_hw107 => k0_hw107.2

def k0_off163 (v3386 : BitVec 32) : Fin 2 → Nat :=
  let v3387 : Index := Scalar.indexCast v3386
  let c0_795 : Index := 0#32
  ![v3387.toNat, 0]

def k0_off164 (v3385 : BitVec 32) : Fin 2 → Nat :=
  let v3391 : Index := Scalar.indexCast v3385
  let c0_797 : Index := 0#32
  ![v3391.toNat, 0]

def k0_chk110 (v3385 : BitVec 32) : Prop :=
  (∀ a, (k0_off164 v3385) a + S1x1024.size a ≤ S64x1024.size a)
theorem k0_off164_inb : ∀ (v3385 : BitVec 32) (k0_hw110 : k0_chk110 v3385), ∀ a, (k0_off164 v3385) a + S1x1024.size a ≤ S64x1024.size a := fun v3385 k0_hw110 => k0_hw110

def k0_off165 (v3386 : BitVec 32) : Fin 2 → Nat :=
  let v3398 : Index := Scalar.indexCast v3386
  let c0_799 : Index := 0#32
  ![v3398.toNat, 0]

def k0_chk109 (v3386 : BitVec 32) : Prop :=
  (∀ a, (k0_off163 v3386) a + S1x1024.size a ≤ S64x1024.size a) ∧
  (∀ a, (k0_off165 v3386) a + S1x1024.size a ≤ S64x1024.size a)
theorem k0_off163_inb : ∀ (v3386 : BitVec 32) (k0_hw109 : k0_chk109 v3386), ∀ a, (k0_off163 v3386) a + S1x1024.size a ≤ S64x1024.size a := fun v3386 k0_hw109 => k0_hw109.1
theorem k0_off165_inb : ∀ (v3386 : BitVec 32) (k0_hw109 : k0_chk109 v3386), ∀ a, (k0_off165 v3386) a + S1x1024.size a ≤ S64x1024.size a := fun v3386 k0_hw109 => k0_hw109.2

def k0_off166 (v3445 : BitVec 32) : Fin 2 → Nat :=
  let v3446 : Index := Scalar.indexCast v3445
  let c0_808 : Index := 0#32
  ![v3446.toNat, 0]

def k0_off167 (v3444 : BitVec 32) : Fin 2 → Nat :=
  let v3450 : Index := Scalar.indexCast v3444
  let c0_810 : Index := 0#32
  ![v3450.toNat, 0]

def k0_chk112 (v3444 : BitVec 32) : Prop :=
  (∀ a, (k0_off167 v3444) a + S1x1024.size a ≤ S64x1024.size a)
theorem k0_off167_inb : ∀ (v3444 : BitVec 32) (k0_hw112 : k0_chk112 v3444), ∀ a, (k0_off167 v3444) a + S1x1024.size a ≤ S64x1024.size a := fun v3444 k0_hw112 => k0_hw112

def k0_off168 (v3445 : BitVec 32) : Fin 2 → Nat :=
  let v3457 : Index := Scalar.indexCast v3445
  let c0_812 : Index := 0#32
  ![v3457.toNat, 0]

def k0_chk111 (v3445 : BitVec 32) : Prop :=
  (∀ a, (k0_off166 v3445) a + S1x1024.size a ≤ S64x1024.size a) ∧
  (∀ a, (k0_off168 v3445) a + S1x1024.size a ≤ S64x1024.size a)
theorem k0_off166_inb : ∀ (v3445 : BitVec 32) (k0_hw111 : k0_chk111 v3445), ∀ a, (k0_off166 v3445) a + S1x1024.size a ≤ S64x1024.size a := fun v3445 k0_hw111 => k0_hw111.1
theorem k0_off168_inb : ∀ (v3445 : BitVec 32) (k0_hw111 : k0_chk111 v3445), ∀ a, (k0_off168 v3445) a + S1x1024.size a ≤ S64x1024.size a := fun v3445 k0_hw111 => k0_hw111.2

def k0_off169 (v3509 : BitVec 32) : Fin 2 → Nat :=
  let v3510 : Index := Scalar.indexCast v3509
  let c0_823 : Index := 0#32
  ![v3510.toNat, 0]

def k0_off170 (v3508 : BitVec 32) : Fin 2 → Nat :=
  let v3514 : Index := Scalar.indexCast v3508
  let c0_825 : Index := 0#32
  ![v3514.toNat, 0]

def k0_chk114 (v3508 : BitVec 32) : Prop :=
  (∀ a, (k0_off170 v3508) a + S1x1024.size a ≤ S64x1024.size a)
theorem k0_off170_inb : ∀ (v3508 : BitVec 32) (k0_hw114 : k0_chk114 v3508), ∀ a, (k0_off170 v3508) a + S1x1024.size a ≤ S64x1024.size a := fun v3508 k0_hw114 => k0_hw114

def k0_off171 (v3509 : BitVec 32) : Fin 2 → Nat :=
  let v3521 : Index := Scalar.indexCast v3509
  let c0_827 : Index := 0#32
  ![v3521.toNat, 0]

def k0_chk113 (v3509 : BitVec 32) : Prop :=
  (∀ a, (k0_off169 v3509) a + S1x1024.size a ≤ S64x1024.size a) ∧
  (∀ a, (k0_off171 v3509) a + S1x1024.size a ≤ S64x1024.size a)
theorem k0_off169_inb : ∀ (v3509 : BitVec 32) (k0_hw113 : k0_chk113 v3509), ∀ a, (k0_off169 v3509) a + S1x1024.size a ≤ S64x1024.size a := fun v3509 k0_hw113 => k0_hw113.1
theorem k0_off171_inb : ∀ (v3509 : BitVec 32) (k0_hw113 : k0_chk113 v3509), ∀ a, (k0_off171 v3509) a + S1x1024.size a ≤ S64x1024.size a := fun v3509 k0_hw113 => k0_hw113.2

def k0_off172 (v3568 : BitVec 32) : Fin 2 → Nat :=
  let v3569 : Index := Scalar.indexCast v3568
  let c0_837 : Index := 0#32
  ![v3569.toNat, 0]

def k0_off173 (v3567 : BitVec 32) : Fin 2 → Nat :=
  let v3573 : Index := Scalar.indexCast v3567
  let c0_839 : Index := 0#32
  ![v3573.toNat, 0]

def k0_chk116 (v3567 : BitVec 32) : Prop :=
  (∀ a, (k0_off173 v3567) a + S1x1024.size a ≤ S64x1024.size a)
theorem k0_off173_inb : ∀ (v3567 : BitVec 32) (k0_hw116 : k0_chk116 v3567), ∀ a, (k0_off173 v3567) a + S1x1024.size a ≤ S64x1024.size a := fun v3567 k0_hw116 => k0_hw116

def k0_off174 (v3568 : BitVec 32) : Fin 2 → Nat :=
  let v3580 : Index := Scalar.indexCast v3568
  let c0_841 : Index := 0#32
  ![v3580.toNat, 0]

def k0_chk115 (v3568 : BitVec 32) : Prop :=
  (∀ a, (k0_off172 v3568) a + S1x1024.size a ≤ S64x1024.size a) ∧
  (∀ a, (k0_off174 v3568) a + S1x1024.size a ≤ S64x1024.size a)
theorem k0_off172_inb : ∀ (v3568 : BitVec 32) (k0_hw115 : k0_chk115 v3568), ∀ a, (k0_off172 v3568) a + S1x1024.size a ≤ S64x1024.size a := fun v3568 k0_hw115 => k0_hw115.1
theorem k0_off174_inb : ∀ (v3568 : BitVec 32) (k0_hw115 : k0_chk115 v3568), ∀ a, (k0_off174 v3568) a + S1x1024.size a ≤ S64x1024.size a := fun v3568 k0_hw115 => k0_hw115.2

def k0_off175 (v3632 : BitVec 32) : Fin 2 → Nat :=
  let v3633 : Index := Scalar.indexCast v3632
  let c0_852 : Index := 0#32
  ![v3633.toNat, 0]

def k0_off176 (v3631 : BitVec 32) : Fin 2 → Nat :=
  let v3637 : Index := Scalar.indexCast v3631
  let c0_854 : Index := 0#32
  ![v3637.toNat, 0]

def k0_chk118 (v3631 : BitVec 32) : Prop :=
  (∀ a, (k0_off176 v3631) a + S1x1024.size a ≤ S64x1024.size a)
theorem k0_off176_inb : ∀ (v3631 : BitVec 32) (k0_hw118 : k0_chk118 v3631), ∀ a, (k0_off176 v3631) a + S1x1024.size a ≤ S64x1024.size a := fun v3631 k0_hw118 => k0_hw118

def k0_off177 (v3632 : BitVec 32) : Fin 2 → Nat :=
  let v3644 : Index := Scalar.indexCast v3632
  let c0_856 : Index := 0#32
  ![v3644.toNat, 0]

def k0_chk117 (v3632 : BitVec 32) : Prop :=
  (∀ a, (k0_off175 v3632) a + S1x1024.size a ≤ S64x1024.size a) ∧
  (∀ a, (k0_off177 v3632) a + S1x1024.size a ≤ S64x1024.size a)
theorem k0_off175_inb : ∀ (v3632 : BitVec 32) (k0_hw117 : k0_chk117 v3632), ∀ a, (k0_off175 v3632) a + S1x1024.size a ≤ S64x1024.size a := fun v3632 k0_hw117 => k0_hw117.1
theorem k0_off177_inb : ∀ (v3632 : BitVec 32) (k0_hw117 : k0_chk117 v3632), ∀ a, (k0_off177 v3632) a + S1x1024.size a ≤ S64x1024.size a := fun v3632 k0_hw117 => k0_hw117.2

def k0_off178 (v3691 : BitVec 32) : Fin 2 → Nat :=
  let v3692 : Index := Scalar.indexCast v3691
  let c0_865 : Index := 0#32
  ![v3692.toNat, 0]

def k0_off179 (v3690 : BitVec 32) : Fin 2 → Nat :=
  let v3696 : Index := Scalar.indexCast v3690
  let c0_867 : Index := 0#32
  ![v3696.toNat, 0]

def k0_chk120 (v3690 : BitVec 32) : Prop :=
  (∀ a, (k0_off179 v3690) a + S1x1024.size a ≤ S64x1024.size a)
theorem k0_off179_inb : ∀ (v3690 : BitVec 32) (k0_hw120 : k0_chk120 v3690), ∀ a, (k0_off179 v3690) a + S1x1024.size a ≤ S64x1024.size a := fun v3690 k0_hw120 => k0_hw120

def k0_off180 (v3691 : BitVec 32) : Fin 2 → Nat :=
  let v3703 : Index := Scalar.indexCast v3691
  let c0_869 : Index := 0#32
  ![v3703.toNat, 0]

def k0_chk119 (v3691 : BitVec 32) : Prop :=
  (∀ a, (k0_off178 v3691) a + S1x1024.size a ≤ S64x1024.size a) ∧
  (∀ a, (k0_off180 v3691) a + S1x1024.size a ≤ S64x1024.size a)
theorem k0_off178_inb : ∀ (v3691 : BitVec 32) (k0_hw119 : k0_chk119 v3691), ∀ a, (k0_off178 v3691) a + S1x1024.size a ≤ S64x1024.size a := fun v3691 k0_hw119 => k0_hw119.1
theorem k0_off180_inb : ∀ (v3691 : BitVec 32) (k0_hw119 : k0_chk119 v3691), ∀ a, (k0_off180 v3691) a + S1x1024.size a ≤ S64x1024.size a := fun v3691 k0_hw119 => k0_hw119.2

def k0_off181 (v3755 : BitVec 32) : Fin 2 → Nat :=
  let v3756 : Index := Scalar.indexCast v3755
  let c0_880 : Index := 0#32
  ![v3756.toNat, 0]

def k0_off182 (v3754 : BitVec 32) : Fin 2 → Nat :=
  let v3760 : Index := Scalar.indexCast v3754
  let c0_882 : Index := 0#32
  ![v3760.toNat, 0]

def k0_chk122 (v3754 : BitVec 32) : Prop :=
  (∀ a, (k0_off182 v3754) a + S1x1024.size a ≤ S64x1024.size a)
theorem k0_off182_inb : ∀ (v3754 : BitVec 32) (k0_hw122 : k0_chk122 v3754), ∀ a, (k0_off182 v3754) a + S1x1024.size a ≤ S64x1024.size a := fun v3754 k0_hw122 => k0_hw122

def k0_off183 (v3755 : BitVec 32) : Fin 2 → Nat :=
  let v3767 : Index := Scalar.indexCast v3755
  let c0_884 : Index := 0#32
  ![v3767.toNat, 0]

def k0_chk121 (v3755 : BitVec 32) : Prop :=
  (∀ a, (k0_off181 v3755) a + S1x1024.size a ≤ S64x1024.size a) ∧
  (∀ a, (k0_off183 v3755) a + S1x1024.size a ≤ S64x1024.size a)
theorem k0_off181_inb : ∀ (v3755 : BitVec 32) (k0_hw121 : k0_chk121 v3755), ∀ a, (k0_off181 v3755) a + S1x1024.size a ≤ S64x1024.size a := fun v3755 k0_hw121 => k0_hw121.1
theorem k0_off183_inb : ∀ (v3755 : BitVec 32) (k0_hw121 : k0_chk121 v3755), ∀ a, (k0_off183 v3755) a + S1x1024.size a ≤ S64x1024.size a := fun v3755 k0_hw121 => k0_hw121.2

def k0_off184 (v3814 : BitVec 32) : Fin 2 → Nat :=
  let v3815 : Index := Scalar.indexCast v3814
  let c0_894 : Index := 0#32
  ![v3815.toNat, 0]

def k0_off185 (v3813 : BitVec 32) : Fin 2 → Nat :=
  let v3819 : Index := Scalar.indexCast v3813
  let c0_896 : Index := 0#32
  ![v3819.toNat, 0]

def k0_chk124 (v3813 : BitVec 32) : Prop :=
  (∀ a, (k0_off185 v3813) a + S1x1024.size a ≤ S64x1024.size a)
theorem k0_off185_inb : ∀ (v3813 : BitVec 32) (k0_hw124 : k0_chk124 v3813), ∀ a, (k0_off185 v3813) a + S1x1024.size a ≤ S64x1024.size a := fun v3813 k0_hw124 => k0_hw124

def k0_off186 (v3814 : BitVec 32) : Fin 2 → Nat :=
  let v3826 : Index := Scalar.indexCast v3814
  let c0_898 : Index := 0#32
  ![v3826.toNat, 0]

def k0_chk123 (v3814 : BitVec 32) : Prop :=
  (∀ a, (k0_off184 v3814) a + S1x1024.size a ≤ S64x1024.size a) ∧
  (∀ a, (k0_off186 v3814) a + S1x1024.size a ≤ S64x1024.size a)
theorem k0_off184_inb : ∀ (v3814 : BitVec 32) (k0_hw123 : k0_chk123 v3814), ∀ a, (k0_off184 v3814) a + S1x1024.size a ≤ S64x1024.size a := fun v3814 k0_hw123 => k0_hw123.1
theorem k0_off186_inb : ∀ (v3814 : BitVec 32) (k0_hw123 : k0_chk123 v3814), ∀ a, (k0_off186 v3814) a + S1x1024.size a ≤ S64x1024.size a := fun v3814 k0_hw123 => k0_hw123.2

def k0_off187 (v3878 : BitVec 32) : Fin 2 → Nat :=
  let v3879 : Index := Scalar.indexCast v3878
  let c0_909 : Index := 0#32
  ![v3879.toNat, 0]

def k0_off188 (v3877 : BitVec 32) : Fin 2 → Nat :=
  let v3883 : Index := Scalar.indexCast v3877
  let c0_911 : Index := 0#32
  ![v3883.toNat, 0]

def k0_chk126 (v3877 : BitVec 32) : Prop :=
  (∀ a, (k0_off188 v3877) a + S1x1024.size a ≤ S64x1024.size a)
theorem k0_off188_inb : ∀ (v3877 : BitVec 32) (k0_hw126 : k0_chk126 v3877), ∀ a, (k0_off188 v3877) a + S1x1024.size a ≤ S64x1024.size a := fun v3877 k0_hw126 => k0_hw126

def k0_off189 (v3878 : BitVec 32) : Fin 2 → Nat :=
  let v3890 : Index := Scalar.indexCast v3878
  let c0_913 : Index := 0#32
  ![v3890.toNat, 0]

def k0_chk125 (v3878 : BitVec 32) : Prop :=
  (∀ a, (k0_off187 v3878) a + S1x1024.size a ≤ S64x1024.size a) ∧
  (∀ a, (k0_off189 v3878) a + S1x1024.size a ≤ S64x1024.size a)
theorem k0_off187_inb : ∀ (v3878 : BitVec 32) (k0_hw125 : k0_chk125 v3878), ∀ a, (k0_off187 v3878) a + S1x1024.size a ≤ S64x1024.size a := fun v3878 k0_hw125 => k0_hw125.1
theorem k0_off189_inb : ∀ (v3878 : BitVec 32) (k0_hw125 : k0_chk125 v3878), ∀ a, (k0_off189 v3878) a + S1x1024.size a ≤ S64x1024.size a := fun v3878 k0_hw125 => k0_hw125.2

def k0_off190 (v3937 : BitVec 32) : Fin 2 → Nat :=
  let v3938 : Index := Scalar.indexCast v3937
  let c0_922 : Index := 0#32
  ![v3938.toNat, 0]

def k0_off191 (v3936 : BitVec 32) : Fin 2 → Nat :=
  let v3942 : Index := Scalar.indexCast v3936
  let c0_924 : Index := 0#32
  ![v3942.toNat, 0]

def k0_chk128 (v3936 : BitVec 32) : Prop :=
  (∀ a, (k0_off191 v3936) a + S1x1024.size a ≤ S64x1024.size a)
theorem k0_off191_inb : ∀ (v3936 : BitVec 32) (k0_hw128 : k0_chk128 v3936), ∀ a, (k0_off191 v3936) a + S1x1024.size a ≤ S64x1024.size a := fun v3936 k0_hw128 => k0_hw128

def k0_off192 (v3937 : BitVec 32) : Fin 2 → Nat :=
  let v3949 : Index := Scalar.indexCast v3937
  let c0_926 : Index := 0#32
  ![v3949.toNat, 0]

def k0_chk127 (v3937 : BitVec 32) : Prop :=
  (∀ a, (k0_off190 v3937) a + S1x1024.size a ≤ S64x1024.size a) ∧
  (∀ a, (k0_off192 v3937) a + S1x1024.size a ≤ S64x1024.size a)
theorem k0_off190_inb : ∀ (v3937 : BitVec 32) (k0_hw127 : k0_chk127 v3937), ∀ a, (k0_off190 v3937) a + S1x1024.size a ≤ S64x1024.size a := fun v3937 k0_hw127 => k0_hw127.1
theorem k0_off192_inb : ∀ (v3937 : BitVec 32) (k0_hw127 : k0_chk127 v3937), ∀ a, (k0_off192 v3937) a + S1x1024.size a ≤ S64x1024.size a := fun v3937 k0_hw127 => k0_hw127.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S48x1x8192 : Shape := ⟨3, ![48, 1, 8192]⟩
abbrev S4096x29696 : Shape := ⟨2, ![4096, 29696]⟩
abbrev S64x29696 : Shape := ⟨2, ![64, 29696]⟩
abbrev S32x29696 : Shape := ⟨2, ![32, 29696]⟩
abbrev S8192 : Shape := ⟨1, ![8192]⟩
abbrev S48x8192 : Shape := ⟨2, ![48, 8192]⟩
abbrev S_ : Shape := ⟨0, ![]⟩
abbrev S8192x1 : Shape := ⟨2, ![8192, 1]⟩
abbrev S64 : Shape := ⟨1, ![64]⟩
abbrev S48x29696 : Shape := ⟨2, ![48, 29696]⟩
abbrev S4096x1024 : Shape := ⟨2, ![4096, 1024]⟩
abbrev S64x1024 : Shape := ⟨2, ![64, 1024]⟩
abbrev S32x1024 : Shape := ⟨2, ![32, 1024]⟩
abbrev S48x1024 : Shape := ⟨2, ![48, 1024]⟩
abbrev S64x2x1024 : Shape := ⟨3, ![64, 2, 1024]⟩
abbrev S64x1x1024 : Shape := ⟨3, ![64, 1, 1024]⟩
abbrev S32x2x1024 : Shape := ⟨3, ![32, 2, 1024]⟩
abbrev S32x1x1024 : Shape := ⟨3, ![32, 1, 1024]⟩
abbrev S1 : Shape := ⟨1, ![1]⟩
abbrev S1x1024 : Shape := ⟨2, ![1, 1024]⟩
abbrev S1x2x1024 : Shape := ⟨3, ![1, 2, 1024]⟩
abbrev S1x1x1024 : Shape := ⟨3, ![1, 1, 1024]⟩
abbrev S8x1024 : Shape := ⟨2, ![8, 1024]⟩
abbrev S16x1024 : Shape := ⟨2, ![16, 1024]⟩
abbrev S128x1024 : Shape := ⟨2, ![128, 1024]⟩
abbrev S256x1024 : Shape := ⟨2, ![256, 1024]⟩
abbrev S48x256 : Shape := ⟨2, ![48, 256]⟩

abbrev nBuf : Space → Nat
  | .hbm => 17
  | .vmem => 13
  | .smem => 2
  | _ => 0

abbrev bufTy : (tb : Table) → Fin (tcTables nBuf tb) → BufTy
  | .hbm, ⟨0, _⟩ => ⟨S48x1x8192, .bf16⟩
  | .hbm, ⟨1, _⟩ => ⟨S4096x29696, .i8⟩
  | .hbm, ⟨2, _⟩ => ⟨S64x29696, .bf16⟩
  | .hbm, ⟨3, _⟩ => ⟨S32x29696, .i8⟩
  | .hbm, ⟨4, _⟩ => ⟨S8192, .i32⟩
  | .hbm, ⟨5, _⟩ => ⟨S8192, .i32⟩
  | .hbm, ⟨6, _⟩ => ⟨S48x8192, .bf16⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S48x8192, .bf16⟩
  | .hbm, ⟨16, _⟩ => ⟨S48x29696, .bf16⟩
  | .local _ .vmem, ⟨0, _⟩ => ⟨S48x8192, .bf16⟩
  | .local _ .vmem, ⟨1, _⟩ => ⟨S4096x1024, .i8⟩
  | .local _ .vmem, ⟨2, _⟩ => ⟨S4096x1024, .i8⟩
  | .local _ .vmem, ⟨3, _⟩ => ⟨S64x1024, .bf16⟩
  | .local _ .vmem, ⟨4, _⟩ => ⟨S64x1024, .bf16⟩
  | .local _ .vmem, ⟨5, _⟩ => ⟨S32x1024, .i8⟩
  | .local _ .vmem, ⟨6, _⟩ => ⟨S32x1024, .i8⟩
  | .local _ .vmem, ⟨7, _⟩ => ⟨S48x1024, .bf16⟩
  | .local _ .vmem, ⟨8, _⟩ => ⟨S48x1024, .bf16⟩
  | .local _ .vmem, ⟨9, _⟩ => ⟨S64x2x1024, .bf16⟩
  | .local _ .vmem, ⟨10, _⟩ => ⟨S64x2x1024, .bf16⟩
  | .local _ .vmem, ⟨11, _⟩ => ⟨S64x2x1024, .bf16⟩
  | .local _ .vmem, ⟨12, _⟩ => ⟨S64x2x1024, .bf16⟩
  | .local _ .smem, ⟨0, _⟩ => ⟨S64, .i32⟩
  | .local _ .smem, ⟨1, _⟩ => ⟨S64, .i32⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v10 : Ref sig .tc := ⟨.hbm, 16, rfl⟩
abbrev main_v8 : Ref sig .tc := ⟨.smem, 0, rfl⟩
abbrev main_v9 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![29], ![false]⟩

abbrev pre0 : Pipeline.Prefetch sig := ⟨2, ![main_v8.idx, main_v9.idx], fun | 0 => main_v8.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v65 : BitVec 32) : Fin 3 → Nat :=
  let v66 : Index := Scalar.indexCast v65
  let c0_26 : Index := 0#32
  ![v66.toNat, 0, 0]

def k0_off2 (v64 : BitVec 32) : Fin 3 → Nat :=
  let v70 : Index := Scalar.indexCast v64
  let c0_27 : Index := 0#32
  ![v70.toNat, 0, 0]

def k0_chk2 (v64 : BitVec 32) : Prop :=
  (∀ a, (k0_off2 v64) a + S1x2x1024.size a ≤ S64x2x1024.size a)
theorem k0_off2_inb : ∀ (v64 : BitVec 32) (k0_hw2 : k0_chk2 v64), ∀ a, (k0_off2 v64) a + S1x2x1024.size a ≤ S64x2x1024.size a := fun v64 k0_hw2 => k0_hw2

def k0_off3 (v65 : BitVec 32) : Fin 3 → Nat :=
  let v77 : Index := Scalar.indexCast v65
  let c0_28 : Index := 0#32
  ![v77.toNat, 0, 0]

def k0_chk1 (v65 : BitVec 32) : Prop :=
  (∀ a, (k0_off1 v65) a + S1x2x1024.size a ≤ S64x2x1024.size a) ∧
  (∀ a, (k0_off3 v65) a + S1x2x1024.size a ≤ S64x2x1024.size a)
theorem k0_off1_inb : ∀ (v65 : BitVec 32) (k0_hw1 : k0_chk1 v65), ∀ a, (k0_off1 v65) a + S1x2x1024.size a ≤ S64x2x1024.size a := fun v65 k0_hw1 => k0_hw1.1
theorem k0_off3_inb : ∀ (v65 : BitVec 32) (k0_hw1 : k0_chk1 v65), ∀ a, (k0_off3 v65) a + S1x2x1024.size a ≤ S64x2x1024.size a := fun v65 k0_hw1 => k0_hw1.2

def k0_off4 (v124 : BitVec 32) : Fin 3 → Nat :=
  let v125 : Index := Scalar.indexCast v124
  let c0_37 : Index := 0#32
  ![v125.toNat, 0, 0]

def k0_off5 (v123 : BitVec 32) : Fin 3 → Nat :=
  let v129 : Index := Scalar.indexCast v123
  let c0_39 : Index := 0#32
  ![v129.toNat, 0, 0]

def k0_chk4 (v123 : BitVec 32) : Prop :=
  (∀ a, (k0_off5 v123) a + S1x2x1024.size a ≤ S64x2x1024.size a)
theorem k0_off5_inb : ∀ (v123 : BitVec 32) (k0_hw4 : k0_chk4 v123), ∀ a, (k0_off5 v123) a + S1x2x1024.size a ≤ S64x2x1024.size a := fun v123 k0_hw4 => k0_hw4

def k0_off6 (v124 : BitVec 32) : Fin 3 → Nat :=
  let v136 : Index := Scalar.indexCast v124
  let c0_41 : Index := 0#32
  ![v136.toNat, 0, 0]

def k0_chk3 (v124 : BitVec 32) : Prop :=
  (∀ a, (k0_off4 v124) a + S1x2x1024.size a ≤ S64x2x1024.size a) ∧
  (∀ a, (k0_off6 v124) a + S1x2x1024.size a ≤ S64x2x1024.size a)
theorem k0_off4_inb : ∀ (v124 : BitVec 32) (k0_hw3 : k0_chk3 v124), ∀ a, (k0_off4 v124) a + S1x2x1024.size a ≤ S64x2x1024.size a := fun v124 k0_hw3 => k0_hw3.1
theorem k0_off6_inb : ∀ (v124 : BitVec 32) (k0_hw3 : k0_chk3 v124), ∀ a, (k0_off6 v124) a + S1x2x1024.size a ≤ S64x2x1024.size a := fun v124 k0_hw3 => k0_hw3.2

def k0_off7 (v188 : BitVec 32) : Fin 3 → Nat :=
  let v189 : Index := Scalar.indexCast v188
  let c0_53 : Index := 0#32
  ![v189.toNat, 0, 0]

def k0_off8 (v187 : BitVec 32) : Fin 3 → Nat :=
  let v193 : Index := Scalar.indexCast v187
  let c0_55 : Index := 0#32
  ![v193.toNat, 0, 0]

def k0_chk6 (v187 : BitVec 32) : Prop :=
  (∀ a, (k0_off8 v187) a + S1x2x1024.size a ≤ S64x2x1024.size a)
theorem k0_off8_inb : ∀ (v187 : BitVec 32) (k0_hw6 : k0_chk6 v187), ∀ a, (k0_off8 v187) a + S1x2x1024.size a ≤ S64x2x1024.size a := fun v187 k0_hw6 => k0_hw6

def k0_off9 (v188 : BitVec 32) : Fin 3 → Nat :=
  let v200 : Index := Scalar.indexCast v188
  let c0_57 : Index := 0#32
  ![v200.toNat, 0, 0]

def k0_chk5 (v188 : BitVec 32) : Prop :=
  (∀ a, (k0_off7 v188) a + S1x2x1024.size a ≤ S64x2x1024.size a) ∧
  (∀ a, (k0_off9 v188) a + S1x2x1024.size a ≤ S64x2x1024.size a)
theorem k0_off7_inb : ∀ (v188 : BitVec 32) (k0_hw5 : k0_chk5 v188), ∀ a, (k0_off7 v188) a + S1x2x1024.size a ≤ S64x2x1024.size a := fun v188 k0_hw5 => k0_hw5.1
theorem k0_off9_inb : ∀ (v188 : BitVec 32) (k0_hw5 : k0_chk5 v188), ∀ a, (k0_off9 v188) a + S1x2x1024.size a ≤ S64x2x1024.size a := fun v188 k0_hw5 => k0_hw5.2

def k0_off10 (v247 : BitVec 32) : Fin 3 → Nat :=
  let v248 : Index := Scalar.indexCast v247
  let c0_66 : Index := 0#32
  ![v248.toNat, 0, 0]

def k0_off11 (v246 : BitVec 32) : Fin 3 → Nat :=
  let v252 : Index := Scalar.indexCast v246
  let c0_68 : Index := 0#32
  ![v252.toNat, 0, 0]

def k0_chk8 (v246 : BitVec 32) : Prop :=
  (∀ a, (k0_off11 v246) a + S1x2x1024.size a ≤ S64x2x1024.size a)
theorem k0_off11_inb : ∀ (v246 : BitVec 32) (k0_hw8 : k0_chk8 v246), ∀ a, (k0_off11 v246) a + S1x2x1024.size a ≤ S64x2x1024.size a := fun v246 k0_hw8 => k0_hw8

def k0_off12 (v247 : BitVec 32) : Fin 3 → Nat :=
  let v259 : Index := Scalar.indexCast v247
  let c0_70 : Index := 0#32
  ![v259.toNat, 0, 0]

def k0_chk7 (v247 : BitVec 32) : Prop :=
  (∀ a, (k0_off10 v247) a + S1x2x1024.size a ≤ S64x2x1024.size a) ∧
  (∀ a, (k0_off12 v247) a + S1x2x1024.size a ≤ S64x2x1024.size a)
theorem k0_off10_inb : ∀ (v247 : BitVec 32) (k0_hw7 : k0_chk7 v247), ∀ a, (k0_off10 v247) a + S1x2x1024.size a ≤ S64x2x1024.size a := fun v247 k0_hw7 => k0_hw7.1
theorem k0_off12_inb : ∀ (v247 : BitVec 32) (k0_hw7 : k0_chk7 v247), ∀ a, (k0_off12 v247) a + S1x2x1024.size a ≤ S64x2x1024.size a := fun v247 k0_hw7 => k0_hw7.2

def k0_off13 (v311 : BitVec 32) : Fin 3 → Nat :=
  let v312 : Index := Scalar.indexCast v311
  let c0_81 : Index := 0#32
  ![v312.toNat, 0, 0]

def k0_off14 (v310 : BitVec 32) : Fin 3 → Nat :=
  let v316 : Index := Scalar.indexCast v310
  let c0_83 : Index := 0#32
  ![v316.toNat, 0, 0]

def k0_chk10 (v310 : BitVec 32) : Prop :=
  (∀ a, (k0_off14 v310) a + S1x2x1024.size a ≤ S64x2x1024.size a)
theorem k0_off14_inb : ∀ (v310 : BitVec 32) (k0_hw10 : k0_chk10 v310), ∀ a, (k0_off14 v310) a + S1x2x1024.size a ≤ S64x2x1024.size a := fun v310 k0_hw10 => k0_hw10

def k0_off15 (v311 : BitVec 32) : Fin 3 → Nat :=
  let v323 : Index := Scalar.indexCast v311
  let c0_85 : Index := 0#32
  ![v323.toNat, 0, 0]

def k0_chk9 (v311 : BitVec 32) : Prop :=
  (∀ a, (k0_off13 v311) a + S1x2x1024.size a ≤ S64x2x1024.size a) ∧
  (∀ a, (k0_off15 v311) a + S1x2x1024.size a ≤ S64x2x1024.size a)
theorem k0_off13_inb : ∀ (v311 : BitVec 32) (k0_hw9 : k0_chk9 v311), ∀ a, (k0_off13 v311) a + S1x2x1024.size a ≤ S64x2x1024.size a := fun v311 k0_hw9 => k0_hw9.1
theorem k0_off15_inb : ∀ (v311 : BitVec 32) (k0_hw9 : k0_chk9 v311), ∀ a, (k0_off15 v311) a + S1x2x1024.size a ≤ S64x2x1024.size a := fun v311 k0_hw9 => k0_hw9.2

def k0_off16 (v370 : BitVec 32) : Fin 3 → Nat :=
  let v371 : Index := Scalar.indexCast v370
  let c0_95 : Index := 0#32
  ![v371.toNat, 0, 0]

def k0_off17 (v369 : BitVec 32) : Fin 3 → Nat :=
  let v375 : Index := Scalar.indexCast v369
  let c0_97 : Index := 0#32
  ![v375.toNat, 0, 0]

def k0_chk12 (v369 : BitVec 32) : Prop :=
  (∀ a, (k0_off17 v369) a + S1x2x1024.size a ≤ S64x2x1024.size a)
theorem k0_off17_inb : ∀ (v369 : BitVec 32) (k0_hw12 : k0_chk12 v369), ∀ a, (k0_off17 v369) a + S1x2x1024.size a ≤ S64x2x1024.size a := fun v369 k0_hw12 => k0_hw12

def k0_off18 (v370 : BitVec 32) : Fin 3 → Nat :=
  let v382 : Index := Scalar.indexCast v370
  let c0_99 : Index := 0#32
  ![v382.toNat, 0, 0]

def k0_chk11 (v370 : BitVec 32) : Prop :=
  (∀ a, (k0_off16 v370) a + S1x2x1024.size a ≤ S64x2x1024.size a) ∧
  (∀ a, (k0_off18 v370) a + S1x2x1024.size a ≤ S64x2x1024.size a)
theorem k0_off16_inb : ∀ (v370 : BitVec 32) (k0_hw11 : k0_chk11 v370), ∀ a, (k0_off16 v370) a + S1x2x1024.size a ≤ S64x2x1024.size a := fun v370 k0_hw11 => k0_hw11.1
theorem k0_off18_inb : ∀ (v370 : BitVec 32) (k0_hw11 : k0_chk11 v370), ∀ a, (k0_off18 v370) a + S1x2x1024.size a ≤ S64x2x1024.size a := fun v370 k0_hw11 => k0_hw11.2

def k0_off19 (v434 : BitVec 32) : Fin 3 → Nat :=
  let v435 : Index := Scalar.indexCast v434
  let c0_110 : Index := 0#32
  ![v435.toNat, 0, 0]

def k0_off20 (v433 : BitVec 32) : Fin 3 → Nat :=
  let v439 : Index := Scalar.indexCast v433
  let c0_112 : Index := 0#32
  ![v439.toNat, 0, 0]

def k0_chk14 (v433 : BitVec 32) : Prop :=
  (∀ a, (k0_off20 v433) a + S1x2x1024.size a ≤ S64x2x1024.size a)
theorem k0_off20_inb : ∀ (v433 : BitVec 32) (k0_hw14 : k0_chk14 v433), ∀ a, (k0_off20 v433) a + S1x2x1024.size a ≤ S64x2x1024.size a := fun v433 k0_hw14 => k0_hw14

def k0_off21 (v434 : BitVec 32) : Fin 3 → Nat :=
  let v446 : Index := Scalar.indexCast v434
  let c0_114 : Index := 0#32
  ![v446.toNat, 0, 0]

def k0_chk13 (v434 : BitVec 32) : Prop :=
  (∀ a, (k0_off19 v434) a + S1x2x1024.size a ≤ S64x2x1024.size a) ∧
  (∀ a, (k0_off21 v434) a + S1x2x1024.size a ≤ S64x2x1024.size a)
theorem k0_off19_inb : ∀ (v434 : BitVec 32) (k0_hw13 : k0_chk13 v434), ∀ a, (k0_off19 v434) a + S1x2x1024.size a ≤ S64x2x1024.size a := fun v434 k0_hw13 => k0_hw13.1
theorem k0_off21_inb : ∀ (v434 : BitVec 32) (k0_hw13 : k0_chk13 v434), ∀ a, (k0_off21 v434) a + S1x2x1024.size a ≤ S64x2x1024.size a := fun v434 k0_hw13 => k0_hw13.2

def k0_off22 (v493 : BitVec 32) : Fin 3 → Nat :=
  let v494 : Index := Scalar.indexCast v493
  let c0_123 : Index := 0#32
  ![v494.toNat, 0, 0]

def k0_off23 (v492 : BitVec 32) : Fin 3 → Nat :=
  let v498 : Index := Scalar.indexCast v492
  let c0_125 : Index := 0#32
  ![v498.toNat, 0, 0]

def k0_chk16 (v492 : BitVec 32) : Prop :=
  (∀ a, (k0_off23 v492) a + S1x2x1024.size a ≤ S64x2x1024.size a)
theorem k0_off23_inb : ∀ (v492 : BitVec 32) (k0_hw16 : k0_chk16 v492), ∀ a, (k0_off23 v492) a + S1x2x1024.size a ≤ S64x2x1024.size a := fun v492 k0_hw16 => k0_hw16

def k0_off24 (v493 : BitVec 32) : Fin 3 → Nat :=
  let v505 : Index := Scalar.indexCast v493
  let c0_127 : Index := 0#32
  ![v505.toNat, 0, 0]

def k0_chk15 (v493 : BitVec 32) : Prop :=
  (∀ a, (k0_off22 v493) a + S1x2x1024.size a ≤ S64x2x1024.size a) ∧
  (∀ a, (k0_off24 v493) a + S1x2x1024.size a ≤ S64x2x1024.size a)
theorem k0_off22_inb : ∀ (v493 : BitVec 32) (k0_hw15 : k0_chk15 v493), ∀ a, (k0_off22 v493) a + S1x2x1024.size a ≤ S64x2x1024.size a := fun v493 k0_hw15 => k0_hw15.1
theorem k0_off24_inb : ∀ (v493 : BitVec 32) (k0_hw15 : k0_chk15 v493), ∀ a, (k0_off24 v493) a + S1x2x1024.size a ≤ S64x2x1024.size a := fun v493 k0_hw15 => k0_hw15.2

def k0_off25 (v557 : BitVec 32) : Fin 3 → Nat :=
  let v558 : Index := Scalar.indexCast v557
  let c0_138 : Index := 0#32
  ![v558.toNat, 0, 0]

def k0_off26 (v556 : BitVec 32) : Fin 3 → Nat :=
  let v562 : Index := Scalar.indexCast v556
  let c0_140 : Index := 0#32
  ![v562.toNat, 0, 0]

def k0_chk18 (v556 : BitVec 32) : Prop :=
  (∀ a, (k0_off26 v556) a + S1x2x1024.size a ≤ S64x2x1024.size a)
theorem k0_off26_inb : ∀ (v556 : BitVec 32) (k0_hw18 : k0_chk18 v556), ∀ a, (k0_off26 v556) a + S1x2x1024.size a ≤ S64x2x1024.size a := fun v556 k0_hw18 => k0_hw18

def k0_off27 (v557 : BitVec 32) : Fin 3 → Nat :=
  let v569 : Index := Scalar.indexCast v557
  let c0_142 : Index := 0#32
  ![v569.toNat, 0, 0]

def k0_chk17 (v557 : BitVec 32) : Prop :=
  (∀ a, (k0_off25 v557) a + S1x2x1024.size a ≤ S64x2x1024.size a) ∧
  (∀ a, (k0_off27 v557) a + S1x2x1024.size a ≤ S64x2x1024.size a)
theorem k0_off25_inb : ∀ (v557 : BitVec 32) (k0_hw17 : k0_chk17 v557), ∀ a, (k0_off25 v557) a + S1x2x1024.size a ≤ S64x2x1024.size a := fun v557 k0_hw17 => k0_hw17.1
theorem k0_off27_inb : ∀ (v557 : BitVec 32) (k0_hw17 : k0_chk17 v557), ∀ a, (k0_off27 v557) a + S1x2x1024.size a ≤ S64x2x1024.size a := fun v557 k0_hw17 => k0_hw17.2

def k0_off28 (v616 : BitVec 32) : Fin 3 → Nat :=
  let v617 : Index := Scalar.indexCast v616
  let c0_152 : Index := 0#32
  ![v617.toNat, 0, 0]

def k0_off29 (v615 : BitVec 32) : Fin 3 → Nat :=
  let v621 : Index := Scalar.indexCast v615
  let c0_154 : Index := 0#32
  ![v621.toNat, 0, 0]

def k0_chk20 (v615 : BitVec 32) : Prop :=
  (∀ a, (k0_off29 v615) a + S1x2x1024.size a ≤ S64x2x1024.size a)
theorem k0_off29_inb : ∀ (v615 : BitVec 32) (k0_hw20 : k0_chk20 v615), ∀ a, (k0_off29 v615) a + S1x2x1024.size a ≤ S64x2x1024.size a := fun v615 k0_hw20 => k0_hw20

def k0_off30 (v616 : BitVec 32) : Fin 3 → Nat :=
  let v628 : Index := Scalar.indexCast v616
  let c0_156 : Index := 0#32
  ![v628.toNat, 0, 0]

def k0_chk19 (v616 : BitVec 32) : Prop :=
  (∀ a, (k0_off28 v616) a + S1x2x1024.size a ≤ S64x2x1024.size a) ∧
  (∀ a, (k0_off30 v616) a + S1x2x1024.size a ≤ S64x2x1024.size a)
theorem k0_off28_inb : ∀ (v616 : BitVec 32) (k0_hw19 : k0_chk19 v616), ∀ a, (k0_off28 v616) a + S1x2x1024.size a ≤ S64x2x1024.size a := fun v616 k0_hw19 => k0_hw19.1
theorem k0_off30_inb : ∀ (v616 : BitVec 32) (k0_hw19 : k0_chk19 v616), ∀ a, (k0_off30 v616) a + S1x2x1024.size a ≤ S64x2x1024.size a := fun v616 k0_hw19 => k0_hw19.2

def k0_off31 (v680 : BitVec 32) : Fin 3 → Nat :=
  let v681 : Index := Scalar.indexCast v680
  let c0_167 : Index := 0#32
  ![v681.toNat, 0, 0]

def k0_off32 (v679 : BitVec 32) : Fin 3 → Nat :=
  let v685 : Index := Scalar.indexCast v679
  let c0_169 : Index := 0#32
  ![v685.toNat, 0, 0]

def k0_chk22 (v679 : BitVec 32) : Prop :=
  (∀ a, (k0_off32 v679) a + S1x2x1024.size a ≤ S64x2x1024.size a)
theorem k0_off32_inb : ∀ (v679 : BitVec 32) (k0_hw22 : k0_chk22 v679), ∀ a, (k0_off32 v679) a + S1x2x1024.size a ≤ S64x2x1024.size a := fun v679 k0_hw22 => k0_hw22

def k0_off33 (v680 : BitVec 32) : Fin 3 → Nat :=
  let v692 : Index := Scalar.indexCast v680
  let c0_171 : Index := 0#32
  ![v692.toNat, 0, 0]

def k0_chk21 (v680 : BitVec 32) : Prop :=
  (∀ a, (k0_off31 v680) a + S1x2x1024.size a ≤ S64x2x1024.size a) ∧
  (∀ a, (k0_off33 v680) a + S1x2x1024.size a ≤ S64x2x1024.size a)
theorem k0_off31_inb : ∀ (v680 : BitVec 32) (k0_hw21 : k0_chk21 v680), ∀ a, (k0_off31 v680) a + S1x2x1024.size a ≤ S64x2x1024.size a := fun v680 k0_hw21 => k0_hw21.1
theorem k0_off33_inb : ∀ (v680 : BitVec 32) (k0_hw21 : k0_chk21 v680), ∀ a, (k0_off33 v680) a + S1x2x1024.size a ≤ S64x2x1024.size a := fun v680 k0_hw21 => k0_hw21.2

def k0_off34 (v739 : BitVec 32) : Fin 3 → Nat :=
  let v740 : Index := Scalar.indexCast v739
  let c0_180 : Index := 0#32
  ![v740.toNat, 0, 0]

def k0_off35 (v738 : BitVec 32) : Fin 3 → Nat :=
  let v744 : Index := Scalar.indexCast v738
  let c0_182 : Index := 0#32
  ![v744.toNat, 0, 0]

def k0_chk24 (v738 : BitVec 32) : Prop :=
  (∀ a, (k0_off35 v738) a + S1x2x1024.size a ≤ S64x2x1024.size a)
theorem k0_off35_inb : ∀ (v738 : BitVec 32) (k0_hw24 : k0_chk24 v738), ∀ a, (k0_off35 v738) a + S1x2x1024.size a ≤ S64x2x1024.size a := fun v738 k0_hw24 => k0_hw24

def k0_off36 (v739 : BitVec 32) : Fin 3 → Nat :=
  let v751 : Index := Scalar.indexCast v739
  let c0_184 : Index := 0#32
  ![v751.toNat, 0, 0]

def k0_chk23 (v739 : BitVec 32) : Prop :=
  (∀ a, (k0_off34 v739) a + S1x2x1024.size a ≤ S64x2x1024.size a) ∧
  (∀ a, (k0_off36 v739) a + S1x2x1024.size a ≤ S64x2x1024.size a)
theorem k0_off34_inb : ∀ (v739 : BitVec 32) (k0_hw23 : k0_chk23 v739), ∀ a, (k0_off34 v739) a + S1x2x1024.size a ≤ S64x2x1024.size a := fun v739 k0_hw23 => k0_hw23.1
theorem k0_off36_inb : ∀ (v739 : BitVec 32) (k0_hw23 : k0_chk23 v739), ∀ a, (k0_off36 v739) a + S1x2x1024.size a ≤ S64x2x1024.size a := fun v739 k0_hw23 => k0_hw23.2

def k0_off37 (v803 : BitVec 32) : Fin 3 → Nat :=
  let v804 : Index := Scalar.indexCast v803
  let c0_195 : Index := 0#32
  ![v804.toNat, 0, 0]

def k0_off38 (v802 : BitVec 32) : Fin 3 → Nat :=
  let v808 : Index := Scalar.indexCast v802
  let c0_197 : Index := 0#32
  ![v808.toNat, 0, 0]

def k0_chk26 (v802 : BitVec 32) : Prop :=
  (∀ a, (k0_off38 v802) a + S1x2x1024.size a ≤ S64x2x1024.size a)
theorem k0_off38_inb : ∀ (v802 : BitVec 32) (k0_hw26 : k0_chk26 v802), ∀ a, (k0_off38 v802) a + S1x2x1024.size a ≤ S64x2x1024.size a := fun v802 k0_hw26 => k0_hw26

def k0_off39 (v803 : BitVec 32) : Fin 3 → Nat :=
  let v815 : Index := Scalar.indexCast v803
  let c0_199 : Index := 0#32
  ![v815.toNat, 0, 0]

def k0_chk25 (v803 : BitVec 32) : Prop :=
  (∀ a, (k0_off37 v803) a + S1x2x1024.size a ≤ S64x2x1024.size a) ∧
  (∀ a, (k0_off39 v803) a + S1x2x1024.size a ≤ S64x2x1024.size a)
theorem k0_off37_inb : ∀ (v803 : BitVec 32) (k0_hw25 : k0_chk25 v803), ∀ a, (k0_off37 v803) a + S1x2x1024.size a ≤ S64x2x1024.size a := fun v803 k0_hw25 => k0_hw25.1
theorem k0_off39_inb : ∀ (v803 : BitVec 32) (k0_hw25 : k0_chk25 v803), ∀ a, (k0_off39 v803) a + S1x2x1024.size a ≤ S64x2x1024.size a := fun v803 k0_hw25 => k0_hw25.2

def k0_off40 (v862 : BitVec 32) : Fin 3 → Nat :=
  let v863 : Index := Scalar.indexCast v862
  let c0_209 : Index := 0#32
  ![v863.toNat, 0, 0]

def k0_off41 (v861 : BitVec 32) : Fin 3 → Nat :=
  let v867 : Index := Scalar.indexCast v861
  let c0_211 : Index := 0#32
  ![v867.toNat, 0, 0]

def k0_chk28 (v861 : BitVec 32) : Prop :=
  (∀ a, (k0_off41 v861) a + S1x2x1024.size a ≤ S64x2x1024.size a)
theorem k0_off41_inb : ∀ (v861 : BitVec 32) (k0_hw28 : k0_chk28 v861), ∀ a, (k0_off41 v861) a + S1x2x1024.size a ≤ S64x2x1024.size a := fun v861 k0_hw28 => k0_hw28

def k0_off42 (v862 : BitVec 32) : Fin 3 → Nat :=
  let v874 : Index := Scalar.indexCast v862
  let c0_213 : Index := 0#32
  ![v874.toNat, 0, 0]

def k0_chk27 (v862 : BitVec 32) : Prop :=
  (∀ a, (k0_off40 v862) a + S1x2x1024.size a ≤ S64x2x1024.size a) ∧
  (∀ a, (k0_off42 v862) a + S1x2x1024.size a ≤ S64x2x1024.size a)
theorem k0_off40_inb : ∀ (v862 : BitVec 32) (k0_hw27 : k0_chk27 v862), ∀ a, (k0_off40 v862) a + S1x2x1024.size a ≤ S64x2x1024.size a := fun v862 k0_hw27 => k0_hw27.1
theorem k0_off42_inb : ∀ (v862 : BitVec 32) (k0_hw27 : k0_chk27 v862), ∀ a, (k0_off42 v862) a + S1x2x1024.size a ≤ S64x2x1024.size a := fun v862 k0_hw27 => k0_hw27.2

def k0_off43 (v926 : BitVec 32) : Fin 3 → Nat :=
  let v927 : Index := Scalar.indexCast v926
  let c0_224 : Index := 0#32
  ![v927.toNat, 0, 0]

def k0_off44 (v925 : BitVec 32) : Fin 3 → Nat :=
  let v931 : Index := Scalar.indexCast v925
  let c0_226 : Index := 0#32
  ![v931.toNat, 0, 0]

def k0_chk30 (v925 : BitVec 32) : Prop :=
  (∀ a, (k0_off44 v925) a + S1x2x1024.size a ≤ S64x2x1024.size a)
theorem k0_off44_inb : ∀ (v925 : BitVec 32) (k0_hw30 : k0_chk30 v925), ∀ a, (k0_off44 v925) a + S1x2x1024.size a ≤ S64x2x1024.size a := fun v925 k0_hw30 => k0_hw30

def k0_off45 (v926 : BitVec 32) : Fin 3 → Nat :=
  let v938 : Index := Scalar.indexCast v926
  let c0_228 : Index := 0#32
  ![v938.toNat, 0, 0]

def k0_chk29 (v926 : BitVec 32) : Prop :=
  (∀ a, (k0_off43 v926) a + S1x2x1024.size a ≤ S64x2x1024.size a) ∧
  (∀ a, (k0_off45 v926) a + S1x2x1024.size a ≤ S64x2x1024.size a)
theorem k0_off43_inb : ∀ (v926 : BitVec 32) (k0_hw29 : k0_chk29 v926), ∀ a, (k0_off43 v926) a + S1x2x1024.size a ≤ S64x2x1024.size a := fun v926 k0_hw29 => k0_hw29.1
theorem k0_off45_inb : ∀ (v926 : BitVec 32) (k0_hw29 : k0_chk29 v926), ∀ a, (k0_off45 v926) a + S1x2x1024.size a ≤ S64x2x1024.size a := fun v926 k0_hw29 => k0_hw29.2

def k0_off46 (v985 : BitVec 32) : Fin 3 → Nat :=
  let v986 : Index := Scalar.indexCast v985
  let c0_237 : Index := 0#32
  ![v986.toNat, 0, 0]

def k0_off47 (v984 : BitVec 32) : Fin 3 → Nat :=
  let v990 : Index := Scalar.indexCast v984
  let c0_239 : Index := 0#32
  ![v990.toNat, 0, 0]

def k0_chk32 (v984 : BitVec 32) : Prop :=
  (∀ a, (k0_off47 v984) a + S1x2x1024.size a ≤ S64x2x1024.size a)
theorem k0_off47_inb : ∀ (v984 : BitVec 32) (k0_hw32 : k0_chk32 v984), ∀ a, (k0_off47 v984) a + S1x2x1024.size a ≤ S64x2x1024.size a := fun v984 k0_hw32 => k0_hw32

def k0_off48 (v985 : BitVec 32) : Fin 3 → Nat :=
  let v997 : Index := Scalar.indexCast v985
  let c0_241 : Index := 0#32
  ![v997.toNat, 0, 0]

def k0_chk31 (v985 : BitVec 32) : Prop :=
  (∀ a, (k0_off46 v985) a + S1x2x1024.size a ≤ S64x2x1024.size a) ∧
  (∀ a, (k0_off48 v985) a + S1x2x1024.size a ≤ S64x2x1024.size a)
theorem k0_off46_inb : ∀ (v985 : BitVec 32) (k0_hw31 : k0_chk31 v985), ∀ a, (k0_off46 v985) a + S1x2x1024.size a ≤ S64x2x1024.size a := fun v985 k0_hw31 => k0_hw31.1
theorem k0_off48_inb : ∀ (v985 : BitVec 32) (k0_hw31 : k0_chk31 v985), ∀ a, (k0_off48 v985) a + S1x2x1024.size a ≤ S64x2x1024.size a := fun v985 k0_hw31 => k0_hw31.2

def k0_off49 (v1049 : BitVec 32) : Fin 3 → Nat :=
  let v1050 : Index := Scalar.indexCast v1049
  let c0_252 : Index := 0#32
  ![v1050.toNat, 0, 0]

def k0_off50 (v1048 : BitVec 32) : Fin 3 → Nat :=
  let v1054 : Index := Scalar.indexCast v1048
  let c0_254 : Index := 0#32
  ![v1054.toNat, 0, 0]

def k0_chk34 (v1048 : BitVec 32) : Prop :=
  (∀ a, (k0_off50 v1048) a + S1x2x1024.size a ≤ S64x2x1024.size a)
theorem k0_off50_inb : ∀ (v1048 : BitVec 32) (k0_hw34 : k0_chk34 v1048), ∀ a, (k0_off50 v1048) a + S1x2x1024.size a ≤ S64x2x1024.size a := fun v1048 k0_hw34 => k0_hw34

def k0_off51 (v1049 : BitVec 32) : Fin 3 → Nat :=
  let v1061 : Index := Scalar.indexCast v1049
  let c0_256 : Index := 0#32
  ![v1061.toNat, 0, 0]

def k0_chk33 (v1049 : BitVec 32) : Prop :=
  (∀ a, (k0_off49 v1049) a + S1x2x1024.size a ≤ S64x2x1024.size a) ∧
  (∀ a, (k0_off51 v1049) a + S1x2x1024.size a ≤ S64x2x1024.size a)
theorem k0_off49_inb : ∀ (v1049 : BitVec 32) (k0_hw33 : k0_chk33 v1049), ∀ a, (k0_off49 v1049) a + S1x2x1024.size a ≤ S64x2x1024.size a := fun v1049 k0_hw33 => k0_hw33.1
theorem k0_off51_inb : ∀ (v1049 : BitVec 32) (k0_hw33 : k0_chk33 v1049), ∀ a, (k0_off51 v1049) a + S1x2x1024.size a ≤ S64x2x1024.size a := fun v1049 k0_hw33 => k0_hw33.2

def k0_off52 (v1108 : BitVec 32) : Fin 3 → Nat :=
  let v1109 : Index := Scalar.indexCast v1108
  let c0_266 : Index := 0#32
  ![v1109.toNat, 0, 0]

def k0_off53 (v1107 : BitVec 32) : Fin 3 → Nat :=
  let v1113 : Index := Scalar.indexCast v1107
  let c0_268 : Index := 0#32
  ![v1113.toNat, 0, 0]

def k0_chk36 (v1107 : BitVec 32) : Prop :=
  (∀ a, (k0_off53 v1107) a + S1x2x1024.size a ≤ S64x2x1024.size a)
theorem k0_off53_inb : ∀ (v1107 : BitVec 32) (k0_hw36 : k0_chk36 v1107), ∀ a, (k0_off53 v1107) a + S1x2x1024.size a ≤ S64x2x1024.size a := fun v1107 k0_hw36 => k0_hw36

def k0_off54 (v1108 : BitVec 32) : Fin 3 → Nat :=
  let v1120 : Index := Scalar.indexCast v1108
  let c0_270 : Index := 0#32
  ![v1120.toNat, 0, 0]

def k0_chk35 (v1108 : BitVec 32) : Prop :=
  (∀ a, (k0_off52 v1108) a + S1x2x1024.size a ≤ S64x2x1024.size a) ∧
  (∀ a, (k0_off54 v1108) a + S1x2x1024.size a ≤ S64x2x1024.size a)
theorem k0_off52_inb : ∀ (v1108 : BitVec 32) (k0_hw35 : k0_chk35 v1108), ∀ a, (k0_off52 v1108) a + S1x2x1024.size a ≤ S64x2x1024.size a := fun v1108 k0_hw35 => k0_hw35.1
theorem k0_off54_inb : ∀ (v1108 : BitVec 32) (k0_hw35 : k0_chk35 v1108), ∀ a, (k0_off54 v1108) a + S1x2x1024.size a ≤ S64x2x1024.size a := fun v1108 k0_hw35 => k0_hw35.2

def k0_off55 (v1172 : BitVec 32) : Fin 3 → Nat :=
  let v1173 : Index := Scalar.indexCast v1172
  let c0_281 : Index := 0#32
  ![v1173.toNat, 0, 0]

def k0_off56 (v1171 : BitVec 32) : Fin 3 → Nat :=
  let v1177 : Index := Scalar.indexCast v1171
  let c0_283 : Index := 0#32
  ![v1177.toNat, 0, 0]

def k0_chk38 (v1171 : BitVec 32) : Prop :=
  (∀ a, (k0_off56 v1171) a + S1x2x1024.size a ≤ S64x2x1024.size a)
theorem k0_off56_inb : ∀ (v1171 : BitVec 32) (k0_hw38 : k0_chk38 v1171), ∀ a, (k0_off56 v1171) a + S1x2x1024.size a ≤ S64x2x1024.size a := fun v1171 k0_hw38 => k0_hw38

def k0_off57 (v1172 : BitVec 32) : Fin 3 → Nat :=
  let v1184 : Index := Scalar.indexCast v1172
  let c0_285 : Index := 0#32
  ![v1184.toNat, 0, 0]

def k0_chk37 (v1172 : BitVec 32) : Prop :=
  (∀ a, (k0_off55 v1172) a + S1x2x1024.size a ≤ S64x2x1024.size a) ∧
  (∀ a, (k0_off57 v1172) a + S1x2x1024.size a ≤ S64x2x1024.size a)
theorem k0_off55_inb : ∀ (v1172 : BitVec 32) (k0_hw37 : k0_chk37 v1172), ∀ a, (k0_off55 v1172) a + S1x2x1024.size a ≤ S64x2x1024.size a := fun v1172 k0_hw37 => k0_hw37.1
theorem k0_off57_inb : ∀ (v1172 : BitVec 32) (k0_hw37 : k0_chk37 v1172), ∀ a, (k0_off57 v1172) a + S1x2x1024.size a ≤ S64x2x1024.size a := fun v1172 k0_hw37 => k0_hw37.2

def k0_off58 (v1231 : BitVec 32) : Fin 3 → Nat :=
  let v1232 : Index := Scalar.indexCast v1231
  let c0_294 : Index := 0#32
  ![v1232.toNat, 0, 0]

def k0_off59 (v1230 : BitVec 32) : Fin 3 → Nat :=
  let v1236 : Index := Scalar.indexCast v1230
  let c0_296 : Index := 0#32
  ![v1236.toNat, 0, 0]

def k0_chk40 (v1230 : BitVec 32) : Prop :=
  (∀ a, (k0_off59 v1230) a + S1x2x1024.size a ≤ S64x2x1024.size a)
theorem k0_off59_inb : ∀ (v1230 : BitVec 32) (k0_hw40 : k0_chk40 v1230), ∀ a, (k0_off59 v1230) a + S1x2x1024.size a ≤ S64x2x1024.size a := fun v1230 k0_hw40 => k0_hw40

def k0_off60 (v1231 : BitVec 32) : Fin 3 → Nat :=
  let v1243 : Index := Scalar.indexCast v1231
  let c0_298 : Index := 0#32
  ![v1243.toNat, 0, 0]

def k0_chk39 (v1231 : BitVec 32) : Prop :=
  (∀ a, (k0_off58 v1231) a + S1x2x1024.size a ≤ S64x2x1024.size a) ∧
  (∀ a, (k0_off60 v1231) a + S1x2x1024.size a ≤ S64x2x1024.size a)
theorem k0_off58_inb : ∀ (v1231 : BitVec 32) (k0_hw39 : k0_chk39 v1231), ∀ a, (k0_off58 v1231) a + S1x2x1024.size a ≤ S64x2x1024.size a := fun v1231 k0_hw39 => k0_hw39.1
theorem k0_off60_inb : ∀ (v1231 : BitVec 32) (k0_hw39 : k0_chk39 v1231), ∀ a, (k0_off60 v1231) a + S1x2x1024.size a ≤ S64x2x1024.size a := fun v1231 k0_hw39 => k0_hw39.2

def k0_off61 (v1295 : BitVec 32) : Fin 3 → Nat :=
  let v1296 : Index := Scalar.indexCast v1295
  let c0_309 : Index := 0#32
  ![v1296.toNat, 0, 0]

def k0_off62 (v1294 : BitVec 32) : Fin 3 → Nat :=
  let v1300 : Index := Scalar.indexCast v1294
  let c0_311 : Index := 0#32
  ![v1300.toNat, 0, 0]

def k0_chk42 (v1294 : BitVec 32) : Prop :=
  (∀ a, (k0_off62 v1294) a + S1x2x1024.size a ≤ S64x2x1024.size a)
theorem k0_off62_inb : ∀ (v1294 : BitVec 32) (k0_hw42 : k0_chk42 v1294), ∀ a, (k0_off62 v1294) a + S1x2x1024.size a ≤ S64x2x1024.size a := fun v1294 k0_hw42 => k0_hw42

def k0_off63 (v1295 : BitVec 32) : Fin 3 → Nat :=
  let v1307 : Index := Scalar.indexCast v1295
  let c0_313 : Index := 0#32
  ![v1307.toNat, 0, 0]

def k0_chk41 (v1295 : BitVec 32) : Prop :=
  (∀ a, (k0_off61 v1295) a + S1x2x1024.size a ≤ S64x2x1024.size a) ∧
  (∀ a, (k0_off63 v1295) a + S1x2x1024.size a ≤ S64x2x1024.size a)
theorem k0_off61_inb : ∀ (v1295 : BitVec 32) (k0_hw41 : k0_chk41 v1295), ∀ a, (k0_off61 v1295) a + S1x2x1024.size a ≤ S64x2x1024.size a := fun v1295 k0_hw41 => k0_hw41.1
theorem k0_off63_inb : ∀ (v1295 : BitVec 32) (k0_hw41 : k0_chk41 v1295), ∀ a, (k0_off63 v1295) a + S1x2x1024.size a ≤ S64x2x1024.size a := fun v1295 k0_hw41 => k0_hw41.2

def k0_off64 (v1354 : BitVec 32) : Fin 3 → Nat :=
  let v1355 : Index := Scalar.indexCast v1354
  let c0_323 : Index := 0#32
  ![v1355.toNat, 0, 0]

def k0_off65 (v1353 : BitVec 32) : Fin 3 → Nat :=
  let v1359 : Index := Scalar.indexCast v1353
  let c0_325 : Index := 0#32
  ![v1359.toNat, 0, 0]

def k0_chk44 (v1353 : BitVec 32) : Prop :=
  (∀ a, (k0_off65 v1353) a + S1x2x1024.size a ≤ S64x2x1024.size a)
theorem k0_off65_inb : ∀ (v1353 : BitVec 32) (k0_hw44 : k0_chk44 v1353), ∀ a, (k0_off65 v1353) a + S1x2x1024.size a ≤ S64x2x1024.size a := fun v1353 k0_hw44 => k0_hw44

def k0_off66 (v1354 : BitVec 32) : Fin 3 → Nat :=
  let v1366 : Index := Scalar.indexCast v1354
  let c0_327 : Index := 0#32
  ![v1366.toNat, 0, 0]

def k0_chk43 (v1354 : BitVec 32) : Prop :=
  (∀ a, (k0_off64 v1354) a + S1x2x1024.size a ≤ S64x2x1024.size a) ∧
  (∀ a, (k0_off66 v1354) a + S1x2x1024.size a ≤ S64x2x1024.size a)
theorem k0_off64_inb : ∀ (v1354 : BitVec 32) (k0_hw43 : k0_chk43 v1354), ∀ a, (k0_off64 v1354) a + S1x2x1024.size a ≤ S64x2x1024.size a := fun v1354 k0_hw43 => k0_hw43.1
theorem k0_off66_inb : ∀ (v1354 : BitVec 32) (k0_hw43 : k0_chk43 v1354), ∀ a, (k0_off66 v1354) a + S1x2x1024.size a ≤ S64x2x1024.size a := fun v1354 k0_hw43 => k0_hw43.2

def k0_off67 (v1418 : BitVec 32) : Fin 3 → Nat :=
  let v1419 : Index := Scalar.indexCast v1418
  let c0_338 : Index := 0#32
  ![v1419.toNat, 0, 0]

def k0_off68 (v1417 : BitVec 32) : Fin 3 → Nat :=
  let v1423 : Index := Scalar.indexCast v1417
  let c0_340 : Index := 0#32
  ![v1423.toNat, 0, 0]

def k0_chk46 (v1417 : BitVec 32) : Prop :=
  (∀ a, (k0_off68 v1417) a + S1x2x1024.size a ≤ S64x2x1024.size a)
theorem k0_off68_inb : ∀ (v1417 : BitVec 32) (k0_hw46 : k0_chk46 v1417), ∀ a, (k0_off68 v1417) a + S1x2x1024.size a ≤ S64x2x1024.size a := fun v1417 k0_hw46 => k0_hw46

def k0_off69 (v1418 : BitVec 32) : Fin 3 → Nat :=
  let v1430 : Index := Scalar.indexCast v1418
  let c0_342 : Index := 0#32
  ![v1430.toNat, 0, 0]

def k0_chk45 (v1418 : BitVec 32) : Prop :=
  (∀ a, (k0_off67 v1418) a + S1x2x1024.size a ≤ S64x2x1024.size a) ∧
  (∀ a, (k0_off69 v1418) a + S1x2x1024.size a ≤ S64x2x1024.size a)
theorem k0_off67_inb : ∀ (v1418 : BitVec 32) (k0_hw45 : k0_chk45 v1418), ∀ a, (k0_off67 v1418) a + S1x2x1024.size a ≤ S64x2x1024.size a := fun v1418 k0_hw45 => k0_hw45.1
theorem k0_off69_inb : ∀ (v1418 : BitVec 32) (k0_hw45 : k0_chk45 v1418), ∀ a, (k0_off69 v1418) a + S1x2x1024.size a ≤ S64x2x1024.size a := fun v1418 k0_hw45 => k0_hw45.2

def k0_off70 (v1477 : BitVec 32) : Fin 3 → Nat :=
  let v1478 : Index := Scalar.indexCast v1477
  let c0_351 : Index := 0#32
  ![v1478.toNat, 0, 0]

def k0_off71 (v1476 : BitVec 32) : Fin 3 → Nat :=
  let v1482 : Index := Scalar.indexCast v1476
  let c0_353 : Index := 0#32
  ![v1482.toNat, 0, 0]

def k0_chk48 (v1476 : BitVec 32) : Prop :=
  (∀ a, (k0_off71 v1476) a + S1x2x1024.size a ≤ S64x2x1024.size a)
theorem k0_off71_inb : ∀ (v1476 : BitVec 32) (k0_hw48 : k0_chk48 v1476), ∀ a, (k0_off71 v1476) a + S1x2x1024.size a ≤ S64x2x1024.size a := fun v1476 k0_hw48 => k0_hw48

def k0_off72 (v1477 : BitVec 32) : Fin 3 → Nat :=
  let v1489 : Index := Scalar.indexCast v1477
  let c0_355 : Index := 0#32
  ![v1489.toNat, 0, 0]

def k0_chk47 (v1477 : BitVec 32) : Prop :=
  (∀ a, (k0_off70 v1477) a + S1x2x1024.size a ≤ S64x2x1024.size a) ∧
  (∀ a, (k0_off72 v1477) a + S1x2x1024.size a ≤ S64x2x1024.size a)
theorem k0_off70_inb : ∀ (v1477 : BitVec 32) (k0_hw47 : k0_chk47 v1477), ∀ a, (k0_off70 v1477) a + S1x2x1024.size a ≤ S64x2x1024.size a := fun v1477 k0_hw47 => k0_hw47.1
theorem k0_off72_inb : ∀ (v1477 : BitVec 32) (k0_hw47 : k0_chk47 v1477), ∀ a, (k0_off72 v1477) a + S1x2x1024.size a ≤ S64x2x1024.size a := fun v1477 k0_hw47 => k0_hw47.2

def k0_off73 (v1541 : BitVec 32) : Fin 3 → Nat :=
  let v1542 : Index := Scalar.indexCast v1541
  let c0_366 : Index := 0#32
  ![v1542.toNat, 0, 0]

def k0_off74 (v1540 : BitVec 32) : Fin 3 → Nat :=
  let v1546 : Index := Scalar.indexCast v1540
  let c0_368 : Index := 0#32
  ![v1546.toNat, 0, 0]

def k0_chk50 (v1540 : BitVec 32) : Prop :=
  (∀ a, (k0_off74 v1540) a + S1x2x1024.size a ≤ S64x2x1024.size a)
theorem k0_off74_inb : ∀ (v1540 : BitVec 32) (k0_hw50 : k0_chk50 v1540), ∀ a, (k0_off74 v1540) a + S1x2x1024.size a ≤ S64x2x1024.size a := fun v1540 k0_hw50 => k0_hw50

def k0_off75 (v1541 : BitVec 32) : Fin 3 → Nat :=
  let v1553 : Index := Scalar.indexCast v1541
  let c0_370 : Index := 0#32
  ![v1553.toNat, 0, 0]

def k0_chk49 (v1541 : BitVec 32) : Prop :=
  (∀ a, (k0_off73 v1541) a + S1x2x1024.size a ≤ S64x2x1024.size a) ∧
  (∀ a, (k0_off75 v1541) a + S1x2x1024.size a ≤ S64x2x1024.size a)
theorem k0_off73_inb : ∀ (v1541 : BitVec 32) (k0_hw49 : k0_chk49 v1541), ∀ a, (k0_off73 v1541) a + S1x2x1024.size a ≤ S64x2x1024.size a := fun v1541 k0_hw49 => k0_hw49.1
theorem k0_off75_inb : ∀ (v1541 : BitVec 32) (k0_hw49 : k0_chk49 v1541), ∀ a, (k0_off75 v1541) a + S1x2x1024.size a ≤ S64x2x1024.size a := fun v1541 k0_hw49 => k0_hw49.2

def k0_off76 (v1600 : BitVec 32) : Fin 3 → Nat :=
  let v1601 : Index := Scalar.indexCast v1600
  let c0_380 : Index := 0#32
  ![v1601.toNat, 0, 0]

def k0_off77 (v1599 : BitVec 32) : Fin 3 → Nat :=
  let v1605 : Index := Scalar.indexCast v1599
  let c0_382 : Index := 0#32
  ![v1605.toNat, 0, 0]

def k0_chk52 (v1599 : BitVec 32) : Prop :=
  (∀ a, (k0_off77 v1599) a + S1x2x1024.size a ≤ S64x2x1024.size a)
theorem k0_off77_inb : ∀ (v1599 : BitVec 32) (k0_hw52 : k0_chk52 v1599), ∀ a, (k0_off77 v1599) a + S1x2x1024.size a ≤ S64x2x1024.size a := fun v1599 k0_hw52 => k0_hw52

def k0_off78 (v1600 : BitVec 32) : Fin 3 → Nat :=
  let v1612 : Index := Scalar.indexCast v1600
  let c0_384 : Index := 0#32
  ![v1612.toNat, 0, 0]

def k0_chk51 (v1600 : BitVec 32) : Prop :=
  (∀ a, (k0_off76 v1600) a + S1x2x1024.size a ≤ S64x2x1024.size a) ∧
  (∀ a, (k0_off78 v1600) a + S1x2x1024.size a ≤ S64x2x1024.size a)
theorem k0_off76_inb : ∀ (v1600 : BitVec 32) (k0_hw51 : k0_chk51 v1600), ∀ a, (k0_off76 v1600) a + S1x2x1024.size a ≤ S64x2x1024.size a := fun v1600 k0_hw51 => k0_hw51.1
theorem k0_off78_inb : ∀ (v1600 : BitVec 32) (k0_hw51 : k0_chk51 v1600), ∀ a, (k0_off78 v1600) a + S1x2x1024.size a ≤ S64x2x1024.size a := fun v1600 k0_hw51 => k0_hw51.2

def k0_off79 (v1664 : BitVec 32) : Fin 3 → Nat :=
  let v1665 : Index := Scalar.indexCast v1664
  let c0_395 : Index := 0#32
  ![v1665.toNat, 0, 0]

def k0_off80 (v1663 : BitVec 32) : Fin 3 → Nat :=
  let v1669 : Index := Scalar.indexCast v1663
  let c0_397 : Index := 0#32
  ![v1669.toNat, 0, 0]

def k0_chk54 (v1663 : BitVec 32) : Prop :=
  (∀ a, (k0_off80 v1663) a + S1x2x1024.size a ≤ S64x2x1024.size a)
theorem k0_off80_inb : ∀ (v1663 : BitVec 32) (k0_hw54 : k0_chk54 v1663), ∀ a, (k0_off80 v1663) a + S1x2x1024.size a ≤ S64x2x1024.size a := fun v1663 k0_hw54 => k0_hw54

def k0_off81 (v1664 : BitVec 32) : Fin 3 → Nat :=
  let v1676 : Index := Scalar.indexCast v1664
  let c0_399 : Index := 0#32
  ![v1676.toNat, 0, 0]

def k0_chk53 (v1664 : BitVec 32) : Prop :=
  (∀ a, (k0_off79 v1664) a + S1x2x1024.size a ≤ S64x2x1024.size a) ∧
  (∀ a, (k0_off81 v1664) a + S1x2x1024.size a ≤ S64x2x1024.size a)
theorem k0_off79_inb : ∀ (v1664 : BitVec 32) (k0_hw53 : k0_chk53 v1664), ∀ a, (k0_off79 v1664) a + S1x2x1024.size a ≤ S64x2x1024.size a := fun v1664 k0_hw53 => k0_hw53.1
theorem k0_off81_inb : ∀ (v1664 : BitVec 32) (k0_hw53 : k0_chk53 v1664), ∀ a, (k0_off81 v1664) a + S1x2x1024.size a ≤ S64x2x1024.size a := fun v1664 k0_hw53 => k0_hw53.2

def k0_off82 (v1723 : BitVec 32) : Fin 3 → Nat :=
  let v1724 : Index := Scalar.indexCast v1723
  let c0_408 : Index := 0#32
  ![v1724.toNat, 0, 0]

def k0_off83 (v1722 : BitVec 32) : Fin 3 → Nat :=
  let v1728 : Index := Scalar.indexCast v1722
  let c0_410 : Index := 0#32
  ![v1728.toNat, 0, 0]

def k0_chk56 (v1722 : BitVec 32) : Prop :=
  (∀ a, (k0_off83 v1722) a + S1x2x1024.size a ≤ S64x2x1024.size a)
theorem k0_off83_inb : ∀ (v1722 : BitVec 32) (k0_hw56 : k0_chk56 v1722), ∀ a, (k0_off83 v1722) a + S1x2x1024.size a ≤ S64x2x1024.size a := fun v1722 k0_hw56 => k0_hw56

def k0_off84 (v1723 : BitVec 32) : Fin 3 → Nat :=
  let v1735 : Index := Scalar.indexCast v1723
  let c0_412 : Index := 0#32
  ![v1735.toNat, 0, 0]

def k0_chk55 (v1723 : BitVec 32) : Prop :=
  (∀ a, (k0_off82 v1723) a + S1x2x1024.size a ≤ S64x2x1024.size a) ∧
  (∀ a, (k0_off84 v1723) a + S1x2x1024.size a ≤ S64x2x1024.size a)
theorem k0_off82_inb : ∀ (v1723 : BitVec 32) (k0_hw55 : k0_chk55 v1723), ∀ a, (k0_off82 v1723) a + S1x2x1024.size a ≤ S64x2x1024.size a := fun v1723 k0_hw55 => k0_hw55.1
theorem k0_off84_inb : ∀ (v1723 : BitVec 32) (k0_hw55 : k0_chk55 v1723), ∀ a, (k0_off84 v1723) a + S1x2x1024.size a ≤ S64x2x1024.size a := fun v1723 k0_hw55 => k0_hw55.2

def k0_off85 (v1787 : BitVec 32) : Fin 3 → Nat :=
  let v1788 : Index := Scalar.indexCast v1787
  let c0_423 : Index := 0#32
  ![v1788.toNat, 0, 0]

def k0_off86 (v1786 : BitVec 32) : Fin 3 → Nat :=
  let v1792 : Index := Scalar.indexCast v1786
  let c0_425 : Index := 0#32
  ![v1792.toNat, 0, 0]

def k0_chk58 (v1786 : BitVec 32) : Prop :=
  (∀ a, (k0_off86 v1786) a + S1x2x1024.size a ≤ S64x2x1024.size a)
theorem k0_off86_inb : ∀ (v1786 : BitVec 32) (k0_hw58 : k0_chk58 v1786), ∀ a, (k0_off86 v1786) a + S1x2x1024.size a ≤ S64x2x1024.size a := fun v1786 k0_hw58 => k0_hw58

def k0_off87 (v1787 : BitVec 32) : Fin 3 → Nat :=
  let v1799 : Index := Scalar.indexCast v1787
  let c0_427 : Index := 0#32
  ![v1799.toNat, 0, 0]

def k0_chk57 (v1787 : BitVec 32) : Prop :=
  (∀ a, (k0_off85 v1787) a + S1x2x1024.size a ≤ S64x2x1024.size a) ∧
  (∀ a, (k0_off87 v1787) a + S1x2x1024.size a ≤ S64x2x1024.size a)
theorem k0_off85_inb : ∀ (v1787 : BitVec 32) (k0_hw57 : k0_chk57 v1787), ∀ a, (k0_off85 v1787) a + S1x2x1024.size a ≤ S64x2x1024.size a := fun v1787 k0_hw57 => k0_hw57.1
theorem k0_off87_inb : ∀ (v1787 : BitVec 32) (k0_hw57 : k0_chk57 v1787), ∀ a, (k0_off87 v1787) a + S1x2x1024.size a ≤ S64x2x1024.size a := fun v1787 k0_hw57 => k0_hw57.2

def k0_off88 (v1846 : BitVec 32) : Fin 3 → Nat :=
  let v1847 : Index := Scalar.indexCast v1846
  let c0_437 : Index := 0#32
  ![v1847.toNat, 0, 0]

def k0_off89 (v1845 : BitVec 32) : Fin 3 → Nat :=
  let v1851 : Index := Scalar.indexCast v1845
  let c0_439 : Index := 0#32
  ![v1851.toNat, 0, 0]

def k0_chk60 (v1845 : BitVec 32) : Prop :=
  (∀ a, (k0_off89 v1845) a + S1x2x1024.size a ≤ S64x2x1024.size a)
theorem k0_off89_inb : ∀ (v1845 : BitVec 32) (k0_hw60 : k0_chk60 v1845), ∀ a, (k0_off89 v1845) a + S1x2x1024.size a ≤ S64x2x1024.size a := fun v1845 k0_hw60 => k0_hw60

def k0_off90 (v1846 : BitVec 32) : Fin 3 → Nat :=
  let v1858 : Index := Scalar.indexCast v1846
  let c0_441 : Index := 0#32
  ![v1858.toNat, 0, 0]

def k0_chk59 (v1846 : BitVec 32) : Prop :=
  (∀ a, (k0_off88 v1846) a + S1x2x1024.size a ≤ S64x2x1024.size a) ∧
  (∀ a, (k0_off90 v1846) a + S1x2x1024.size a ≤ S64x2x1024.size a)
theorem k0_off88_inb : ∀ (v1846 : BitVec 32) (k0_hw59 : k0_chk59 v1846), ∀ a, (k0_off88 v1846) a + S1x2x1024.size a ≤ S64x2x1024.size a := fun v1846 k0_hw59 => k0_hw59.1
theorem k0_off90_inb : ∀ (v1846 : BitVec 32) (k0_hw59 : k0_chk59 v1846), ∀ a, (k0_off90 v1846) a + S1x2x1024.size a ≤ S64x2x1024.size a := fun v1846 k0_hw59 => k0_hw59.2

def k0_off91 (v1910 : BitVec 32) : Fin 3 → Nat :=
  let v1911 : Index := Scalar.indexCast v1910
  let c0_452 : Index := 0#32
  ![v1911.toNat, 0, 0]

def k0_off92 (v1909 : BitVec 32) : Fin 3 → Nat :=
  let v1915 : Index := Scalar.indexCast v1909
  let c0_454 : Index := 0#32
  ![v1915.toNat, 0, 0]

def k0_chk62 (v1909 : BitVec 32) : Prop :=
  (∀ a, (k0_off92 v1909) a + S1x2x1024.size a ≤ S64x2x1024.size a)
theorem k0_off92_inb : ∀ (v1909 : BitVec 32) (k0_hw62 : k0_chk62 v1909), ∀ a, (k0_off92 v1909) a + S1x2x1024.size a ≤ S64x2x1024.size a := fun v1909 k0_hw62 => k0_hw62

def k0_off93 (v1910 : BitVec 32) : Fin 3 → Nat :=
  let v1922 : Index := Scalar.indexCast v1910
  let c0_456 : Index := 0#32
  ![v1922.toNat, 0, 0]

def k0_chk61 (v1910 : BitVec 32) : Prop :=
  (∀ a, (k0_off91 v1910) a + S1x2x1024.size a ≤ S64x2x1024.size a) ∧
  (∀ a, (k0_off93 v1910) a + S1x2x1024.size a ≤ S64x2x1024.size a)
theorem k0_off91_inb : ∀ (v1910 : BitVec 32) (k0_hw61 : k0_chk61 v1910), ∀ a, (k0_off91 v1910) a + S1x2x1024.size a ≤ S64x2x1024.size a := fun v1910 k0_hw61 => k0_hw61.1
theorem k0_off93_inb : ∀ (v1910 : BitVec 32) (k0_hw61 : k0_chk61 v1910), ∀ a, (k0_off93 v1910) a + S1x2x1024.size a ≤ S64x2x1024.size a := fun v1910 k0_hw61 => k0_hw61.2

def k0_off94 (v1969 : BitVec 32) : Fin 3 → Nat :=
  let v1970 : Index := Scalar.indexCast v1969
  let c0_465 : Index := 0#32
  ![v1970.toNat, 0, 0]

def k0_off95 (v1968 : BitVec 32) : Fin 3 → Nat :=
  let v1974 : Index := Scalar.indexCast v1968
  let c0_467 : Index := 0#32
  ![v1974.toNat, 0, 0]

def k0_chk64 (v1968 : BitVec 32) : Prop :=
  (∀ a, (k0_off95 v1968) a + S1x2x1024.size a ≤ S64x2x1024.size a)
theorem k0_off95_inb : ∀ (v1968 : BitVec 32) (k0_hw64 : k0_chk64 v1968), ∀ a, (k0_off95 v1968) a + S1x2x1024.size a ≤ S64x2x1024.size a := fun v1968 k0_hw64 => k0_hw64

def k0_off96 (v1969 : BitVec 32) : Fin 3 → Nat :=
  let v1981 : Index := Scalar.indexCast v1969
  let c0_469 : Index := 0#32
  ![v1981.toNat, 0, 0]

def k0_chk63 (v1969 : BitVec 32) : Prop :=
  (∀ a, (k0_off94 v1969) a + S1x2x1024.size a ≤ S64x2x1024.size a) ∧
  (∀ a, (k0_off96 v1969) a + S1x2x1024.size a ≤ S64x2x1024.size a)
theorem k0_off94_inb : ∀ (v1969 : BitVec 32) (k0_hw63 : k0_chk63 v1969), ∀ a, (k0_off94 v1969) a + S1x2x1024.size a ≤ S64x2x1024.size a := fun v1969 k0_hw63 => k0_hw63.1
theorem k0_off96_inb : ∀ (v1969 : BitVec 32) (k0_hw63 : k0_chk63 v1969), ∀ a, (k0_off96 v1969) a + S1x2x1024.size a ≤ S64x2x1024.size a := fun v1969 k0_hw63 => k0_hw63.2

def k0_off97 (v2033 : BitVec 32) : Fin 3 → Nat :=
  let v2034 : Index := Scalar.indexCast v2033
  let c0_481 : Index := 0#32
  ![v2034.toNat, 0, 0]

def k0_off98 (v2032 : BitVec 32) : Fin 3 → Nat :=
  let v2038 : Index := Scalar.indexCast v2032
  let c0_483 : Index := 0#32
  ![v2038.toNat, 0, 0]

def k0_chk66 (v2032 : BitVec 32) : Prop :=
  (∀ a, (k0_off98 v2032) a + S1x2x1024.size a ≤ S64x2x1024.size a)
theorem k0_off98_inb : ∀ (v2032 : BitVec 32) (k0_hw66 : k0_chk66 v2032), ∀ a, (k0_off98 v2032) a + S1x2x1024.size a ≤ S64x2x1024.size a := fun v2032 k0_hw66 => k0_hw66

def k0_off99 (v2033 : BitVec 32) : Fin 3 → Nat :=
  let v2045 : Index := Scalar.indexCast v2033
  let c0_485 : Index := 0#32
  ![v2045.toNat, 0, 0]

def k0_chk65 (v2033 : BitVec 32) : Prop :=
  (∀ a, (k0_off97 v2033) a + S1x2x1024.size a ≤ S64x2x1024.size a) ∧
  (∀ a, (k0_off99 v2033) a + S1x2x1024.size a ≤ S64x2x1024.size a)
theorem k0_off97_inb : ∀ (v2033 : BitVec 32) (k0_hw65 : k0_chk65 v2033), ∀ a, (k0_off97 v2033) a + S1x2x1024.size a ≤ S64x2x1024.size a := fun v2033 k0_hw65 => k0_hw65.1
theorem k0_off99_inb : ∀ (v2033 : BitVec 32) (k0_hw65 : k0_chk65 v2033), ∀ a, (k0_off99 v2033) a + S1x2x1024.size a ≤ S64x2x1024.size a := fun v2033 k0_hw65 => k0_hw65.2

def k0_off100 (v2092 : BitVec 32) : Fin 3 → Nat :=
  let v2093 : Index := Scalar.indexCast v2092
  let c0_495 : Index := 0#32
  ![v2093.toNat, 0, 0]

def k0_off101 (v2091 : BitVec 32) : Fin 3 → Nat :=
  let v2097 : Index := Scalar.indexCast v2091
  let c0_497 : Index := 0#32
  ![v2097.toNat, 0, 0]

def k0_chk68 (v2091 : BitVec 32) : Prop :=
  (∀ a, (k0_off101 v2091) a + S1x2x1024.size a ≤ S64x2x1024.size a)
theorem k0_off101_inb : ∀ (v2091 : BitVec 32) (k0_hw68 : k0_chk68 v2091), ∀ a, (k0_off101 v2091) a + S1x2x1024.size a ≤ S64x2x1024.size a := fun v2091 k0_hw68 => k0_hw68

def k0_off102 (v2092 : BitVec 32) : Fin 3 → Nat :=
  let v2104 : Index := Scalar.indexCast v2092
  let c0_499 : Index := 0#32
  ![v2104.toNat, 0, 0]

def k0_chk67 (v2092 : BitVec 32) : Prop :=
  (∀ a, (k0_off100 v2092) a + S1x2x1024.size a ≤ S64x2x1024.size a) ∧
  (∀ a, (k0_off102 v2092) a + S1x2x1024.size a ≤ S64x2x1024.size a)
theorem k0_off100_inb : ∀ (v2092 : BitVec 32) (k0_hw67 : k0_chk67 v2092), ∀ a, (k0_off100 v2092) a + S1x2x1024.size a ≤ S64x2x1024.size a := fun v2092 k0_hw67 => k0_hw67.1
theorem k0_off102_inb : ∀ (v2092 : BitVec 32) (k0_hw67 : k0_chk67 v2092), ∀ a, (k0_off102 v2092) a + S1x2x1024.size a ≤ S64x2x1024.size a := fun v2092 k0_hw67 => k0_hw67.2

def k0_off103 (v2156 : BitVec 32) : Fin 3 → Nat :=
  let v2157 : Index := Scalar.indexCast v2156
  let c0_510 : Index := 0#32
  ![v2157.toNat, 0, 0]

def k0_off104 (v2155 : BitVec 32) : Fin 3 → Nat :=
  let v2161 : Index := Scalar.indexCast v2155
  let c0_512 : Index := 0#32
  ![v2161.toNat, 0, 0]

def k0_chk70 (v2155 : BitVec 32) : Prop :=
  (∀ a, (k0_off104 v2155) a + S1x2x1024.size a ≤ S64x2x1024.size a)
theorem k0_off104_inb : ∀ (v2155 : BitVec 32) (k0_hw70 : k0_chk70 v2155), ∀ a, (k0_off104 v2155) a + S1x2x1024.size a ≤ S64x2x1024.size a := fun v2155 k0_hw70 => k0_hw70

def k0_off105 (v2156 : BitVec 32) : Fin 3 → Nat :=
  let v2168 : Index := Scalar.indexCast v2156
  let c0_514 : Index := 0#32
  ![v2168.toNat, 0, 0]

def k0_chk69 (v2156 : BitVec 32) : Prop :=
  (∀ a, (k0_off103 v2156) a + S1x2x1024.size a ≤ S64x2x1024.size a) ∧
  (∀ a, (k0_off105 v2156) a + S1x2x1024.size a ≤ S64x2x1024.size a)
theorem k0_off103_inb : ∀ (v2156 : BitVec 32) (k0_hw69 : k0_chk69 v2156), ∀ a, (k0_off103 v2156) a + S1x2x1024.size a ≤ S64x2x1024.size a := fun v2156 k0_hw69 => k0_hw69.1
theorem k0_off105_inb : ∀ (v2156 : BitVec 32) (k0_hw69 : k0_chk69 v2156), ∀ a, (k0_off105 v2156) a + S1x2x1024.size a ≤ S64x2x1024.size a := fun v2156 k0_hw69 => k0_hw69.2

def k0_off106 (v2215 : BitVec 32) : Fin 3 → Nat :=
  let v2216 : Index := Scalar.indexCast v2215
  let c0_523 : Index := 0#32
  ![v2216.toNat, 0, 0]

def k0_off107 (v2214 : BitVec 32) : Fin 3 → Nat :=
  let v2220 : Index := Scalar.indexCast v2214
  let c0_525 : Index := 0#32
  ![v2220.toNat, 0, 0]

def k0_chk72 (v2214 : BitVec 32) : Prop :=
  (∀ a, (k0_off107 v2214) a + S1x2x1024.size a ≤ S64x2x1024.size a)
theorem k0_off107_inb : ∀ (v2214 : BitVec 32) (k0_hw72 : k0_chk72 v2214), ∀ a, (k0_off107 v2214) a + S1x2x1024.size a ≤ S64x2x1024.size a := fun v2214 k0_hw72 => k0_hw72

def k0_off108 (v2215 : BitVec 32) : Fin 3 → Nat :=
  let v2227 : Index := Scalar.indexCast v2215
  let c0_527 : Index := 0#32
  ![v2227.toNat, 0, 0]

def k0_chk71 (v2215 : BitVec 32) : Prop :=
  (∀ a, (k0_off106 v2215) a + S1x2x1024.size a ≤ S64x2x1024.size a) ∧
  (∀ a, (k0_off108 v2215) a + S1x2x1024.size a ≤ S64x2x1024.size a)
theorem k0_off106_inb : ∀ (v2215 : BitVec 32) (k0_hw71 : k0_chk71 v2215), ∀ a, (k0_off106 v2215) a + S1x2x1024.size a ≤ S64x2x1024.size a := fun v2215 k0_hw71 => k0_hw71.1
theorem k0_off108_inb : ∀ (v2215 : BitVec 32) (k0_hw71 : k0_chk71 v2215), ∀ a, (k0_off108 v2215) a + S1x2x1024.size a ≤ S64x2x1024.size a := fun v2215 k0_hw71 => k0_hw71.2

def k0_off109 (v2279 : BitVec 32) : Fin 3 → Nat :=
  let v2280 : Index := Scalar.indexCast v2279
  let c0_538 : Index := 0#32
  ![v2280.toNat, 0, 0]

def k0_off110 (v2278 : BitVec 32) : Fin 3 → Nat :=
  let v2284 : Index := Scalar.indexCast v2278
  let c0_540 : Index := 0#32
  ![v2284.toNat, 0, 0]

def k0_chk74 (v2278 : BitVec 32) : Prop :=
  (∀ a, (k0_off110 v2278) a + S1x2x1024.size a ≤ S64x2x1024.size a)
theorem k0_off110_inb : ∀ (v2278 : BitVec 32) (k0_hw74 : k0_chk74 v2278), ∀ a, (k0_off110 v2278) a + S1x2x1024.size a ≤ S64x2x1024.size a := fun v2278 k0_hw74 => k0_hw74

def k0_off111 (v2279 : BitVec 32) : Fin 3 → Nat :=
  let v2291 : Index := Scalar.indexCast v2279
  let c0_542 : Index := 0#32
  ![v2291.toNat, 0, 0]

def k0_chk73 (v2279 : BitVec 32) : Prop :=
  (∀ a, (k0_off109 v2279) a + S1x2x1024.size a ≤ S64x2x1024.size a) ∧
  (∀ a, (k0_off111 v2279) a + S1x2x1024.size a ≤ S64x2x1024.size a)
theorem k0_off109_inb : ∀ (v2279 : BitVec 32) (k0_hw73 : k0_chk73 v2279), ∀ a, (k0_off109 v2279) a + S1x2x1024.size a ≤ S64x2x1024.size a := fun v2279 k0_hw73 => k0_hw73.1
theorem k0_off111_inb : ∀ (v2279 : BitVec 32) (k0_hw73 : k0_chk73 v2279), ∀ a, (k0_off111 v2279) a + S1x2x1024.size a ≤ S64x2x1024.size a := fun v2279 k0_hw73 => k0_hw73.2

def k0_off112 (v2338 : BitVec 32) : Fin 3 → Nat :=
  let v2339 : Index := Scalar.indexCast v2338
  let c0_552 : Index := 0#32
  ![v2339.toNat, 0, 0]

def k0_off113 (v2337 : BitVec 32) : Fin 3 → Nat :=
  let v2343 : Index := Scalar.indexCast v2337
  let c0_554 : Index := 0#32
  ![v2343.toNat, 0, 0]

def k0_chk76 (v2337 : BitVec 32) : Prop :=
  (∀ a, (k0_off113 v2337) a + S1x2x1024.size a ≤ S64x2x1024.size a)
theorem k0_off113_inb : ∀ (v2337 : BitVec 32) (k0_hw76 : k0_chk76 v2337), ∀ a, (k0_off113 v2337) a + S1x2x1024.size a ≤ S64x2x1024.size a := fun v2337 k0_hw76 => k0_hw76

def k0_off114 (v2338 : BitVec 32) : Fin 3 → Nat :=
  let v2350 : Index := Scalar.indexCast v2338
  let c0_556 : Index := 0#32
  ![v2350.toNat, 0, 0]

def k0_chk75 (v2338 : BitVec 32) : Prop :=
  (∀ a, (k0_off112 v2338) a + S1x2x1024.size a ≤ S64x2x1024.size a) ∧
  (∀ a, (k0_off114 v2338) a + S1x2x1024.size a ≤ S64x2x1024.size a)
theorem k0_off112_inb : ∀ (v2338 : BitVec 32) (k0_hw75 : k0_chk75 v2338), ∀ a, (k0_off112 v2338) a + S1x2x1024.size a ≤ S64x2x1024.size a := fun v2338 k0_hw75 => k0_hw75.1
theorem k0_off114_inb : ∀ (v2338 : BitVec 32) (k0_hw75 : k0_chk75 v2338), ∀ a, (k0_off114 v2338) a + S1x2x1024.size a ≤ S64x2x1024.size a := fun v2338 k0_hw75 => k0_hw75.2

def k0_off115 (v2402 : BitVec 32) : Fin 3 → Nat :=
  let v2403 : Index := Scalar.indexCast v2402
  let c0_567 : Index := 0#32
  ![v2403.toNat, 0, 0]

def k0_off116 (v2401 : BitVec 32) : Fin 3 → Nat :=
  let v2407 : Index := Scalar.indexCast v2401
  let c0_569 : Index := 0#32
  ![v2407.toNat, 0, 0]

def k0_chk78 (v2401 : BitVec 32) : Prop :=
  (∀ a, (k0_off116 v2401) a + S1x2x1024.size a ≤ S64x2x1024.size a)
theorem k0_off116_inb : ∀ (v2401 : BitVec 32) (k0_hw78 : k0_chk78 v2401), ∀ a, (k0_off116 v2401) a + S1x2x1024.size a ≤ S64x2x1024.size a := fun v2401 k0_hw78 => k0_hw78

def k0_off117 (v2402 : BitVec 32) : Fin 3 → Nat :=
  let v2414 : Index := Scalar.indexCast v2402
  let c0_571 : Index := 0#32
  ![v2414.toNat, 0, 0]

def k0_chk77 (v2402 : BitVec 32) : Prop :=
  (∀ a, (k0_off115 v2402) a + S1x2x1024.size a ≤ S64x2x1024.size a) ∧
  (∀ a, (k0_off117 v2402) a + S1x2x1024.size a ≤ S64x2x1024.size a)
theorem k0_off115_inb : ∀ (v2402 : BitVec 32) (k0_hw77 : k0_chk77 v2402), ∀ a, (k0_off115 v2402) a + S1x2x1024.size a ≤ S64x2x1024.size a := fun v2402 k0_hw77 => k0_hw77.1
theorem k0_off117_inb : ∀ (v2402 : BitVec 32) (k0_hw77 : k0_chk77 v2402), ∀ a, (k0_off117 v2402) a + S1x2x1024.size a ≤ S64x2x1024.size a := fun v2402 k0_hw77 => k0_hw77.2

def k0_off118 (v2461 : BitVec 32) : Fin 3 → Nat :=
  let v2462 : Index := Scalar.indexCast v2461
  let c0_580 : Index := 0#32
  ![v2462.toNat, 0, 0]

def k0_off119 (v2460 : BitVec 32) : Fin 3 → Nat :=
  let v2466 : Index := Scalar.indexCast v2460
  let c0_582 : Index := 0#32
  ![v2466.toNat, 0, 0]

def k0_chk80 (v2460 : BitVec 32) : Prop :=
  (∀ a, (k0_off119 v2460) a + S1x2x1024.size a ≤ S64x2x1024.size a)
theorem k0_off119_inb : ∀ (v2460 : BitVec 32) (k0_hw80 : k0_chk80 v2460), ∀ a, (k0_off119 v2460) a + S1x2x1024.size a ≤ S64x2x1024.size a := fun v2460 k0_hw80 => k0_hw80

def k0_off120 (v2461 : BitVec 32) : Fin 3 → Nat :=
  let v2473 : Index := Scalar.indexCast v2461
  let c0_584 : Index := 0#32
  ![v2473.toNat, 0, 0]

def k0_chk79 (v2461 : BitVec 32) : Prop :=
  (∀ a, (k0_off118 v2461) a + S1x2x1024.size a ≤ S64x2x1024.size a) ∧
  (∀ a, (k0_off120 v2461) a + S1x2x1024.size a ≤ S64x2x1024.size a)
theorem k0_off118_inb : ∀ (v2461 : BitVec 32) (k0_hw79 : k0_chk79 v2461), ∀ a, (k0_off118 v2461) a + S1x2x1024.size a ≤ S64x2x1024.size a := fun v2461 k0_hw79 => k0_hw79.1
theorem k0_off120_inb : ∀ (v2461 : BitVec 32) (k0_hw79 : k0_chk79 v2461), ∀ a, (k0_off120 v2461) a + S1x2x1024.size a ≤ S64x2x1024.size a := fun v2461 k0_hw79 => k0_hw79.2

def k0_off121 (v2525 : BitVec 32) : Fin 3 → Nat :=
  let v2526 : Index := Scalar.indexCast v2525
  let c0_595 : Index := 0#32
  ![v2526.toNat, 0, 0]

def k0_off122 (v2524 : BitVec 32) : Fin 3 → Nat :=
  let v2530 : Index := Scalar.indexCast v2524
  let c0_597 : Index := 0#32
  ![v2530.toNat, 0, 0]

def k0_chk82 (v2524 : BitVec 32) : Prop :=
  (∀ a, (k0_off122 v2524) a + S1x2x1024.size a ≤ S64x2x1024.size a)
theorem k0_off122_inb : ∀ (v2524 : BitVec 32) (k0_hw82 : k0_chk82 v2524), ∀ a, (k0_off122 v2524) a + S1x2x1024.size a ≤ S64x2x1024.size a := fun v2524 k0_hw82 => k0_hw82

def k0_off123 (v2525 : BitVec 32) : Fin 3 → Nat :=
  let v2537 : Index := Scalar.indexCast v2525
  let c0_599 : Index := 0#32
  ![v2537.toNat, 0, 0]

def k0_chk81 (v2525 : BitVec 32) : Prop :=
  (∀ a, (k0_off121 v2525) a + S1x2x1024.size a ≤ S64x2x1024.size a) ∧
  (∀ a, (k0_off123 v2525) a + S1x2x1024.size a ≤ S64x2x1024.size a)
theorem k0_off121_inb : ∀ (v2525 : BitVec 32) (k0_hw81 : k0_chk81 v2525), ∀ a, (k0_off121 v2525) a + S1x2x1024.size a ≤ S64x2x1024.size a := fun v2525 k0_hw81 => k0_hw81.1
theorem k0_off123_inb : ∀ (v2525 : BitVec 32) (k0_hw81 : k0_chk81 v2525), ∀ a, (k0_off123 v2525) a + S1x2x1024.size a ≤ S64x2x1024.size a := fun v2525 k0_hw81 => k0_hw81.2

def k0_off124 (v2584 : BitVec 32) : Fin 3 → Nat :=
  let v2585 : Index := Scalar.indexCast v2584
  let c0_609 : Index := 0#32
  ![v2585.toNat, 0, 0]

def k0_off125 (v2583 : BitVec 32) : Fin 3 → Nat :=
  let v2589 : Index := Scalar.indexCast v2583
  let c0_611 : Index := 0#32
  ![v2589.toNat, 0, 0]

def k0_chk84 (v2583 : BitVec 32) : Prop :=
  (∀ a, (k0_off125 v2583) a + S1x2x1024.size a ≤ S64x2x1024.size a)
theorem k0_off125_inb : ∀ (v2583 : BitVec 32) (k0_hw84 : k0_chk84 v2583), ∀ a, (k0_off125 v2583) a + S1x2x1024.size a ≤ S64x2x1024.size a := fun v2583 k0_hw84 => k0_hw84

def k0_off126 (v2584 : BitVec 32) : Fin 3 → Nat :=
  let v2596 : Index := Scalar.indexCast v2584
  let c0_613 : Index := 0#32
  ![v2596.toNat, 0, 0]

def k0_chk83 (v2584 : BitVec 32) : Prop :=
  (∀ a, (k0_off124 v2584) a + S1x2x1024.size a ≤ S64x2x1024.size a) ∧
  (∀ a, (k0_off126 v2584) a + S1x2x1024.size a ≤ S64x2x1024.size a)
theorem k0_off124_inb : ∀ (v2584 : BitVec 32) (k0_hw83 : k0_chk83 v2584), ∀ a, (k0_off124 v2584) a + S1x2x1024.size a ≤ S64x2x1024.size a := fun v2584 k0_hw83 => k0_hw83.1
theorem k0_off126_inb : ∀ (v2584 : BitVec 32) (k0_hw83 : k0_chk83 v2584), ∀ a, (k0_off126 v2584) a + S1x2x1024.size a ≤ S64x2x1024.size a := fun v2584 k0_hw83 => k0_hw83.2

def k0_off127 (v2648 : BitVec 32) : Fin 3 → Nat :=
  let v2649 : Index := Scalar.indexCast v2648
  let c0_624 : Index := 0#32
  ![v2649.toNat, 0, 0]

def k0_off128 (v2647 : BitVec 32) : Fin 3 → Nat :=
  let v2653 : Index := Scalar.indexCast v2647
  let c0_626 : Index := 0#32
  ![v2653.toNat, 0, 0]

def k0_chk86 (v2647 : BitVec 32) : Prop :=
  (∀ a, (k0_off128 v2647) a + S1x2x1024.size a ≤ S64x2x1024.size a)
theorem k0_off128_inb : ∀ (v2647 : BitVec 32) (k0_hw86 : k0_chk86 v2647), ∀ a, (k0_off128 v2647) a + S1x2x1024.size a ≤ S64x2x1024.size a := fun v2647 k0_hw86 => k0_hw86

def k0_off129 (v2648 : BitVec 32) : Fin 3 → Nat :=
  let v2660 : Index := Scalar.indexCast v2648
  let c0_628 : Index := 0#32
  ![v2660.toNat, 0, 0]

def k0_chk85 (v2648 : BitVec 32) : Prop :=
  (∀ a, (k0_off127 v2648) a + S1x2x1024.size a ≤ S64x2x1024.size a) ∧
  (∀ a, (k0_off129 v2648) a + S1x2x1024.size a ≤ S64x2x1024.size a)
theorem k0_off127_inb : ∀ (v2648 : BitVec 32) (k0_hw85 : k0_chk85 v2648), ∀ a, (k0_off127 v2648) a + S1x2x1024.size a ≤ S64x2x1024.size a := fun v2648 k0_hw85 => k0_hw85.1
theorem k0_off129_inb : ∀ (v2648 : BitVec 32) (k0_hw85 : k0_chk85 v2648), ∀ a, (k0_off129 v2648) a + S1x2x1024.size a ≤ S64x2x1024.size a := fun v2648 k0_hw85 => k0_hw85.2

def k0_off130 (v2707 : BitVec 32) : Fin 3 → Nat :=
  let v2708 : Index := Scalar.indexCast v2707
  let c0_637 : Index := 0#32
  ![v2708.toNat, 0, 0]

def k0_off131 (v2706 : BitVec 32) : Fin 3 → Nat :=
  let v2712 : Index := Scalar.indexCast v2706
  let c0_639 : Index := 0#32
  ![v2712.toNat, 0, 0]

def k0_chk88 (v2706 : BitVec 32) : Prop :=
  (∀ a, (k0_off131 v2706) a + S1x2x1024.size a ≤ S64x2x1024.size a)
theorem k0_off131_inb : ∀ (v2706 : BitVec 32) (k0_hw88 : k0_chk88 v2706), ∀ a, (k0_off131 v2706) a + S1x2x1024.size a ≤ S64x2x1024.size a := fun v2706 k0_hw88 => k0_hw88

def k0_off132 (v2707 : BitVec 32) : Fin 3 → Nat :=
  let v2719 : Index := Scalar.indexCast v2707
  let c0_641 : Index := 0#32
  ![v2719.toNat, 0, 0]

def k0_chk87 (v2707 : BitVec 32) : Prop :=
  (∀ a, (k0_off130 v2707) a + S1x2x1024.size a ≤ S64x2x1024.size a) ∧
  (∀ a, (k0_off132 v2707) a + S1x2x1024.size a ≤ S64x2x1024.size a)
theorem k0_off130_inb : ∀ (v2707 : BitVec 32) (k0_hw87 : k0_chk87 v2707), ∀ a, (k0_off130 v2707) a + S1x2x1024.size a ≤ S64x2x1024.size a := fun v2707 k0_hw87 => k0_hw87.1
theorem k0_off132_inb : ∀ (v2707 : BitVec 32) (k0_hw87 : k0_chk87 v2707), ∀ a, (k0_off132 v2707) a + S1x2x1024.size a ≤ S64x2x1024.size a := fun v2707 k0_hw87 => k0_hw87.2

def k0_off133 (v2771 : BitVec 32) : Fin 3 → Nat :=
  let v2772 : Index := Scalar.indexCast v2771
  let c0_652 : Index := 0#32
  ![v2772.toNat, 0, 0]

def k0_off134 (v2770 : BitVec 32) : Fin 3 → Nat :=
  let v2776 : Index := Scalar.indexCast v2770
  let c0_654 : Index := 0#32
  ![v2776.toNat, 0, 0]

def k0_chk90 (v2770 : BitVec 32) : Prop :=
  (∀ a, (k0_off134 v2770) a + S1x2x1024.size a ≤ S64x2x1024.size a)
theorem k0_off134_inb : ∀ (v2770 : BitVec 32) (k0_hw90 : k0_chk90 v2770), ∀ a, (k0_off134 v2770) a + S1x2x1024.size a ≤ S64x2x1024.size a := fun v2770 k0_hw90 => k0_hw90

def k0_off135 (v2771 : BitVec 32) : Fin 3 → Nat :=
  let v2783 : Index := Scalar.indexCast v2771
  let c0_656 : Index := 0#32
  ![v2783.toNat, 0, 0]

def k0_chk89 (v2771 : BitVec 32) : Prop :=
  (∀ a, (k0_off133 v2771) a + S1x2x1024.size a ≤ S64x2x1024.size a) ∧
  (∀ a, (k0_off135 v2771) a + S1x2x1024.size a ≤ S64x2x1024.size a)
theorem k0_off133_inb : ∀ (v2771 : BitVec 32) (k0_hw89 : k0_chk89 v2771), ∀ a, (k0_off133 v2771) a + S1x2x1024.size a ≤ S64x2x1024.size a := fun v2771 k0_hw89 => k0_hw89.1
theorem k0_off135_inb : ∀ (v2771 : BitVec 32) (k0_hw89 : k0_chk89 v2771), ∀ a, (k0_off135 v2771) a + S1x2x1024.size a ≤ S64x2x1024.size a := fun v2771 k0_hw89 => k0_hw89.2

def k0_off136 (v2830 : BitVec 32) : Fin 3 → Nat :=
  let v2831 : Index := Scalar.indexCast v2830
  let c0_666 : Index := 0#32
  ![v2831.toNat, 0, 0]

def k0_off137 (v2829 : BitVec 32) : Fin 3 → Nat :=
  let v2835 : Index := Scalar.indexCast v2829
  let c0_668 : Index := 0#32
  ![v2835.toNat, 0, 0]

def k0_chk92 (v2829 : BitVec 32) : Prop :=
  (∀ a, (k0_off137 v2829) a + S1x2x1024.size a ≤ S64x2x1024.size a)
theorem k0_off137_inb : ∀ (v2829 : BitVec 32) (k0_hw92 : k0_chk92 v2829), ∀ a, (k0_off137 v2829) a + S1x2x1024.size a ≤ S64x2x1024.size a := fun v2829 k0_hw92 => k0_hw92

def k0_off138 (v2830 : BitVec 32) : Fin 3 → Nat :=
  let v2842 : Index := Scalar.indexCast v2830
  let c0_670 : Index := 0#32
  ![v2842.toNat, 0, 0]

def k0_chk91 (v2830 : BitVec 32) : Prop :=
  (∀ a, (k0_off136 v2830) a + S1x2x1024.size a ≤ S64x2x1024.size a) ∧
  (∀ a, (k0_off138 v2830) a + S1x2x1024.size a ≤ S64x2x1024.size a)
theorem k0_off136_inb : ∀ (v2830 : BitVec 32) (k0_hw91 : k0_chk91 v2830), ∀ a, (k0_off136 v2830) a + S1x2x1024.size a ≤ S64x2x1024.size a := fun v2830 k0_hw91 => k0_hw91.1
theorem k0_off138_inb : ∀ (v2830 : BitVec 32) (k0_hw91 : k0_chk91 v2830), ∀ a, (k0_off138 v2830) a + S1x2x1024.size a ≤ S64x2x1024.size a := fun v2830 k0_hw91 => k0_hw91.2

def k0_off139 (v2894 : BitVec 32) : Fin 3 → Nat :=
  let v2895 : Index := Scalar.indexCast v2894
  let c0_681 : Index := 0#32
  ![v2895.toNat, 0, 0]

def k0_off140 (v2893 : BitVec 32) : Fin 3 → Nat :=
  let v2899 : Index := Scalar.indexCast v2893
  let c0_683 : Index := 0#32
  ![v2899.toNat, 0, 0]

def k0_chk94 (v2893 : BitVec 32) : Prop :=
  (∀ a, (k0_off140 v2893) a + S1x2x1024.size a ≤ S64x2x1024.size a)
theorem k0_off140_inb : ∀ (v2893 : BitVec 32) (k0_hw94 : k0_chk94 v2893), ∀ a, (k0_off140 v2893) a + S1x2x1024.size a ≤ S64x2x1024.size a := fun v2893 k0_hw94 => k0_hw94

def k0_off141 (v2894 : BitVec 32) : Fin 3 → Nat :=
  let v2906 : Index := Scalar.indexCast v2894
  let c0_685 : Index := 0#32
  ![v2906.toNat, 0, 0]

def k0_chk93 (v2894 : BitVec 32) : Prop :=
  (∀ a, (k0_off139 v2894) a + S1x2x1024.size a ≤ S64x2x1024.size a) ∧
  (∀ a, (k0_off141 v2894) a + S1x2x1024.size a ≤ S64x2x1024.size a)
theorem k0_off139_inb : ∀ (v2894 : BitVec 32) (k0_hw93 : k0_chk93 v2894), ∀ a, (k0_off139 v2894) a + S1x2x1024.size a ≤ S64x2x1024.size a := fun v2894 k0_hw93 => k0_hw93.1
theorem k0_off141_inb : ∀ (v2894 : BitVec 32) (k0_hw93 : k0_chk93 v2894), ∀ a, (k0_off141 v2894) a + S1x2x1024.size a ≤ S64x2x1024.size a := fun v2894 k0_hw93 => k0_hw93.2

def k0_off142 (v2953 : BitVec 32) : Fin 3 → Nat :=
  let v2954 : Index := Scalar.indexCast v2953
  let c0_694 : Index := 0#32
  ![v2954.toNat, 0, 0]

def k0_off143 (v2952 : BitVec 32) : Fin 3 → Nat :=
  let v2958 : Index := Scalar.indexCast v2952
  let c0_696 : Index := 0#32
  ![v2958.toNat, 0, 0]

def k0_chk96 (v2952 : BitVec 32) : Prop :=
  (∀ a, (k0_off143 v2952) a + S1x2x1024.size a ≤ S64x2x1024.size a)
theorem k0_off143_inb : ∀ (v2952 : BitVec 32) (k0_hw96 : k0_chk96 v2952), ∀ a, (k0_off143 v2952) a + S1x2x1024.size a ≤ S64x2x1024.size a := fun v2952 k0_hw96 => k0_hw96

def k0_off144 (v2953 : BitVec 32) : Fin 3 → Nat :=
  let v2965 : Index := Scalar.indexCast v2953
  let c0_698 : Index := 0#32
  ![v2965.toNat, 0, 0]

def k0_chk95 (v2953 : BitVec 32) : Prop :=
  (∀ a, (k0_off142 v2953) a + S1x2x1024.size a ≤ S64x2x1024.size a) ∧
  (∀ a, (k0_off144 v2953) a + S1x2x1024.size a ≤ S64x2x1024.size a)
theorem k0_off142_inb : ∀ (v2953 : BitVec 32) (k0_hw95 : k0_chk95 v2953), ∀ a, (k0_off142 v2953) a + S1x2x1024.size a ≤ S64x2x1024.size a := fun v2953 k0_hw95 => k0_hw95.1
theorem k0_off144_inb : ∀ (v2953 : BitVec 32) (k0_hw95 : k0_chk95 v2953), ∀ a, (k0_off144 v2953) a + S1x2x1024.size a ≤ S64x2x1024.size a := fun v2953 k0_hw95 => k0_hw95.2

def k0_off145 (v3017 : BitVec 32) : Fin 3 → Nat :=
  let v3018 : Index := Scalar.indexCast v3017
  let c0_709 : Index := 0#32
  ![v3018.toNat, 0, 0]

def k0_off146 (v3016 : BitVec 32) : Fin 3 → Nat :=
  let v3022 : Index := Scalar.indexCast v3016
  let c0_711 : Index := 0#32
  ![v3022.toNat, 0, 0]

def k0_chk98 (v3016 : BitVec 32) : Prop :=
  (∀ a, (k0_off146 v3016) a + S1x2x1024.size a ≤ S64x2x1024.size a)
theorem k0_off146_inb : ∀ (v3016 : BitVec 32) (k0_hw98 : k0_chk98 v3016), ∀ a, (k0_off146 v3016) a + S1x2x1024.size a ≤ S64x2x1024.size a := fun v3016 k0_hw98 => k0_hw98

def k0_off147 (v3017 : BitVec 32) : Fin 3 → Nat :=
  let v3029 : Index := Scalar.indexCast v3017
  let c0_713 : Index := 0#32
  ![v3029.toNat, 0, 0]

def k0_chk97 (v3017 : BitVec 32) : Prop :=
  (∀ a, (k0_off145 v3017) a + S1x2x1024.size a ≤ S64x2x1024.size a) ∧
  (∀ a, (k0_off147 v3017) a + S1x2x1024.size a ≤ S64x2x1024.size a)
theorem k0_off145_inb : ∀ (v3017 : BitVec 32) (k0_hw97 : k0_chk97 v3017), ∀ a, (k0_off145 v3017) a + S1x2x1024.size a ≤ S64x2x1024.size a := fun v3017 k0_hw97 => k0_hw97.1
theorem k0_off147_inb : ∀ (v3017 : BitVec 32) (k0_hw97 : k0_chk97 v3017), ∀ a, (k0_off147 v3017) a + S1x2x1024.size a ≤ S64x2x1024.size a := fun v3017 k0_hw97 => k0_hw97.2

def k0_off148 (v3076 : BitVec 32) : Fin 3 → Nat :=
  let v3077 : Index := Scalar.indexCast v3076
  let c0_723 : Index := 0#32
  ![v3077.toNat, 0, 0]

def k0_off149 (v3075 : BitVec 32) : Fin 3 → Nat :=
  let v3081 : Index := Scalar.indexCast v3075
  let c0_725 : Index := 0#32
  ![v3081.toNat, 0, 0]

def k0_chk100 (v3075 : BitVec 32) : Prop :=
  (∀ a, (k0_off149 v3075) a + S1x2x1024.size a ≤ S64x2x1024.size a)
theorem k0_off149_inb : ∀ (v3075 : BitVec 32) (k0_hw100 : k0_chk100 v3075), ∀ a, (k0_off149 v3075) a + S1x2x1024.size a ≤ S64x2x1024.size a := fun v3075 k0_hw100 => k0_hw100

def k0_off150 (v3076 : BitVec 32) : Fin 3 → Nat :=
  let v3088 : Index := Scalar.indexCast v3076
  let c0_727 : Index := 0#32
  ![v3088.toNat, 0, 0]

def k0_chk99 (v3076 : BitVec 32) : Prop :=
  (∀ a, (k0_off148 v3076) a + S1x2x1024.size a ≤ S64x2x1024.size a) ∧
  (∀ a, (k0_off150 v3076) a + S1x2x1024.size a ≤ S64x2x1024.size a)
theorem k0_off148_inb : ∀ (v3076 : BitVec 32) (k0_hw99 : k0_chk99 v3076), ∀ a, (k0_off148 v3076) a + S1x2x1024.size a ≤ S64x2x1024.size a := fun v3076 k0_hw99 => k0_hw99.1
theorem k0_off150_inb : ∀ (v3076 : BitVec 32) (k0_hw99 : k0_chk99 v3076), ∀ a, (k0_off150 v3076) a + S1x2x1024.size a ≤ S64x2x1024.size a := fun v3076 k0_hw99 => k0_hw99.2

def k0_off151 (v3140 : BitVec 32) : Fin 3 → Nat :=
  let v3141 : Index := Scalar.indexCast v3140
  let c0_738 : Index := 0#32
  ![v3141.toNat, 0, 0]

def k0_off152 (v3139 : BitVec 32) : Fin 3 → Nat :=
  let v3145 : Index := Scalar.indexCast v3139
  let c0_740 : Index := 0#32
  ![v3145.toNat, 0, 0]

def k0_chk102 (v3139 : BitVec 32) : Prop :=
  (∀ a, (k0_off152 v3139) a + S1x2x1024.size a ≤ S64x2x1024.size a)
theorem k0_off152_inb : ∀ (v3139 : BitVec 32) (k0_hw102 : k0_chk102 v3139), ∀ a, (k0_off152 v3139) a + S1x2x1024.size a ≤ S64x2x1024.size a := fun v3139 k0_hw102 => k0_hw102

def k0_off153 (v3140 : BitVec 32) : Fin 3 → Nat :=
  let v3152 : Index := Scalar.indexCast v3140
  let c0_742 : Index := 0#32
  ![v3152.toNat, 0, 0]

def k0_chk101 (v3140 : BitVec 32) : Prop :=
  (∀ a, (k0_off151 v3140) a + S1x2x1024.size a ≤ S64x2x1024.size a) ∧
  (∀ a, (k0_off153 v3140) a + S1x2x1024.size a ≤ S64x2x1024.size a)
theorem k0_off151_inb : ∀ (v3140 : BitVec 32) (k0_hw101 : k0_chk101 v3140), ∀ a, (k0_off151 v3140) a + S1x2x1024.size a ≤ S64x2x1024.size a := fun v3140 k0_hw101 => k0_hw101.1
theorem k0_off153_inb : ∀ (v3140 : BitVec 32) (k0_hw101 : k0_chk101 v3140), ∀ a, (k0_off153 v3140) a + S1x2x1024.size a ≤ S64x2x1024.size a := fun v3140 k0_hw101 => k0_hw101.2

def k0_off154 (v3199 : BitVec 32) : Fin 3 → Nat :=
  let v3200 : Index := Scalar.indexCast v3199
  let c0_751 : Index := 0#32
  ![v3200.toNat, 0, 0]

def k0_off155 (v3198 : BitVec 32) : Fin 3 → Nat :=
  let v3204 : Index := Scalar.indexCast v3198
  let c0_753 : Index := 0#32
  ![v3204.toNat, 0, 0]

def k0_chk104 (v3198 : BitVec 32) : Prop :=
  (∀ a, (k0_off155 v3198) a + S1x2x1024.size a ≤ S64x2x1024.size a)
theorem k0_off155_inb : ∀ (v3198 : BitVec 32) (k0_hw104 : k0_chk104 v3198), ∀ a, (k0_off155 v3198) a + S1x2x1024.size a ≤ S64x2x1024.size a := fun v3198 k0_hw104 => k0_hw104

def k0_off156 (v3199 : BitVec 32) : Fin 3 → Nat :=
  let v3211 : Index := Scalar.indexCast v3199
  let c0_755 : Index := 0#32
  ![v3211.toNat, 0, 0]

def k0_chk103 (v3199 : BitVec 32) : Prop :=
  (∀ a, (k0_off154 v3199) a + S1x2x1024.size a ≤ S64x2x1024.size a) ∧
  (∀ a, (k0_off156 v3199) a + S1x2x1024.size a ≤ S64x2x1024.size a)
theorem k0_off154_inb : ∀ (v3199 : BitVec 32) (k0_hw103 : k0_chk103 v3199), ∀ a, (k0_off154 v3199) a + S1x2x1024.size a ≤ S64x2x1024.size a := fun v3199 k0_hw103 => k0_hw103.1
theorem k0_off156_inb : ∀ (v3199 : BitVec 32) (k0_hw103 : k0_chk103 v3199), ∀ a, (k0_off156 v3199) a + S1x2x1024.size a ≤ S64x2x1024.size a := fun v3199 k0_hw103 => k0_hw103.2

def k0_off157 (v3263 : BitVec 32) : Fin 3 → Nat :=
  let v3264 : Index := Scalar.indexCast v3263
  let c0_766 : Index := 0#32
  ![v3264.toNat, 0, 0]

def k0_off158 (v3262 : BitVec 32) : Fin 3 → Nat :=
  let v3268 : Index := Scalar.indexCast v3262
  let c0_768 : Index := 0#32
  ![v3268.toNat, 0, 0]

def k0_chk106 (v3262 : BitVec 32) : Prop :=
  (∀ a, (k0_off158 v3262) a + S1x2x1024.size a ≤ S64x2x1024.size a)
theorem k0_off158_inb : ∀ (v3262 : BitVec 32) (k0_hw106 : k0_chk106 v3262), ∀ a, (k0_off158 v3262) a + S1x2x1024.size a ≤ S64x2x1024.size a := fun v3262 k0_hw106 => k0_hw106

def k0_off159 (v3263 : BitVec 32) : Fin 3 → Nat :=
  let v3275 : Index := Scalar.indexCast v3263
  let c0_770 : Index := 0#32
  ![v3275.toNat, 0, 0]

def k0_chk105 (v3263 : BitVec 32) : Prop :=
  (∀ a, (k0_off157 v3263) a + S1x2x1024.size a ≤ S64x2x1024.size a) ∧
  (∀ a, (k0_off159 v3263) a + S1x2x1024.size a ≤ S64x2x1024.size a)
theorem k0_off157_inb : ∀ (v3263 : BitVec 32) (k0_hw105 : k0_chk105 v3263), ∀ a, (k0_off157 v3263) a + S1x2x1024.size a ≤ S64x2x1024.size a := fun v3263 k0_hw105 => k0_hw105.1
theorem k0_off159_inb : ∀ (v3263 : BitVec 32) (k0_hw105 : k0_chk105 v3263), ∀ a, (k0_off159 v3263) a + S1x2x1024.size a ≤ S64x2x1024.size a := fun v3263 k0_hw105 => k0_hw105.2

def k0_off160 (v3322 : BitVec 32) : Fin 3 → Nat :=
  let v3323 : Index := Scalar.indexCast v3322
  let c0_780 : Index := 0#32
  ![v3323.toNat, 0, 0]

def k0_off161 (v3321 : BitVec 32) : Fin 3 → Nat :=
  let v3327 : Index := Scalar.indexCast v3321
  let c0_782 : Index := 0#32
  ![v3327.toNat, 0, 0]

def k0_chk108 (v3321 : BitVec 32) : Prop :=
  (∀ a, (k0_off161 v3321) a + S1x2x1024.size a ≤ S64x2x1024.size a)
theorem k0_off161_inb : ∀ (v3321 : BitVec 32) (k0_hw108 : k0_chk108 v3321), ∀ a, (k0_off161 v3321) a + S1x2x1024.size a ≤ S64x2x1024.size a := fun v3321 k0_hw108 => k0_hw108

def k0_off162 (v3322 : BitVec 32) : Fin 3 → Nat :=
  let v3334 : Index := Scalar.indexCast v3322
  let c0_784 : Index := 0#32
  ![v3334.toNat, 0, 0]

def k0_chk107 (v3322 : BitVec 32) : Prop :=
  (∀ a, (k0_off160 v3322) a + S1x2x1024.size a ≤ S64x2x1024.size a) ∧
  (∀ a, (k0_off162 v3322) a + S1x2x1024.size a ≤ S64x2x1024.size a)
theorem k0_off160_inb : ∀ (v3322 : BitVec 32) (k0_hw107 : k0_chk107 v3322), ∀ a, (k0_off160 v3322) a + S1x2x1024.size a ≤ S64x2x1024.size a := fun v3322 k0_hw107 => k0_hw107.1
theorem k0_off162_inb : ∀ (v3322 : BitVec 32) (k0_hw107 : k0_chk107 v3322), ∀ a, (k0_off162 v3322) a + S1x2x1024.size a ≤ S64x2x1024.size a := fun v3322 k0_hw107 => k0_hw107.2

def k0_off163 (v3386 : BitVec 32) : Fin 3 → Nat :=
  let v3387 : Index := Scalar.indexCast v3386
  let c0_795 : Index := 0#32
  ![v3387.toNat, 0, 0]

def k0_off164 (v3385 : BitVec 32) : Fin 3 → Nat :=
  let v3391 : Index := Scalar.indexCast v3385
  let c0_797 : Index := 0#32
  ![v3391.toNat, 0, 0]

def k0_chk110 (v3385 : BitVec 32) : Prop :=
  (∀ a, (k0_off164 v3385) a + S1x2x1024.size a ≤ S64x2x1024.size a)
theorem k0_off164_inb : ∀ (v3385 : BitVec 32) (k0_hw110 : k0_chk110 v3385), ∀ a, (k0_off164 v3385) a + S1x2x1024.size a ≤ S64x2x1024.size a := fun v3385 k0_hw110 => k0_hw110

def k0_off165 (v3386 : BitVec 32) : Fin 3 → Nat :=
  let v3398 : Index := Scalar.indexCast v3386
  let c0_799 : Index := 0#32
  ![v3398.toNat, 0, 0]

def k0_chk109 (v3386 : BitVec 32) : Prop :=
  (∀ a, (k0_off163 v3386) a + S1x2x1024.size a ≤ S64x2x1024.size a) ∧
  (∀ a, (k0_off165 v3386) a + S1x2x1024.size a ≤ S64x2x1024.size a)
theorem k0_off163_inb : ∀ (v3386 : BitVec 32) (k0_hw109 : k0_chk109 v3386), ∀ a, (k0_off163 v3386) a + S1x2x1024.size a ≤ S64x2x1024.size a := fun v3386 k0_hw109 => k0_hw109.1
theorem k0_off165_inb : ∀ (v3386 : BitVec 32) (k0_hw109 : k0_chk109 v3386), ∀ a, (k0_off165 v3386) a + S1x2x1024.size a ≤ S64x2x1024.size a := fun v3386 k0_hw109 => k0_hw109.2

def k0_off166 (v3445 : BitVec 32) : Fin 3 → Nat :=
  let v3446 : Index := Scalar.indexCast v3445
  let c0_808 : Index := 0#32
  ![v3446.toNat, 0, 0]

def k0_off167 (v3444 : BitVec 32) : Fin 3 → Nat :=
  let v3450 : Index := Scalar.indexCast v3444
  let c0_810 : Index := 0#32
  ![v3450.toNat, 0, 0]

def k0_chk112 (v3444 : BitVec 32) : Prop :=
  (∀ a, (k0_off167 v3444) a + S1x2x1024.size a ≤ S64x2x1024.size a)
theorem k0_off167_inb : ∀ (v3444 : BitVec 32) (k0_hw112 : k0_chk112 v3444), ∀ a, (k0_off167 v3444) a + S1x2x1024.size a ≤ S64x2x1024.size a := fun v3444 k0_hw112 => k0_hw112

def k0_off168 (v3445 : BitVec 32) : Fin 3 → Nat :=
  let v3457 : Index := Scalar.indexCast v3445
  let c0_812 : Index := 0#32
  ![v3457.toNat, 0, 0]

def k0_chk111 (v3445 : BitVec 32) : Prop :=
  (∀ a, (k0_off166 v3445) a + S1x2x1024.size a ≤ S64x2x1024.size a) ∧
  (∀ a, (k0_off168 v3445) a + S1x2x1024.size a ≤ S64x2x1024.size a)
theorem k0_off166_inb : ∀ (v3445 : BitVec 32) (k0_hw111 : k0_chk111 v3445), ∀ a, (k0_off166 v3445) a + S1x2x1024.size a ≤ S64x2x1024.size a := fun v3445 k0_hw111 => k0_hw111.1
theorem k0_off168_inb : ∀ (v3445 : BitVec 32) (k0_hw111 : k0_chk111 v3445), ∀ a, (k0_off168 v3445) a + S1x2x1024.size a ≤ S64x2x1024.size a := fun v3445 k0_hw111 => k0_hw111.2

def k0_off169 (v3509 : BitVec 32) : Fin 3 → Nat :=
  let v3510 : Index := Scalar.indexCast v3509
  let c0_823 : Index := 0#32
  ![v3510.toNat, 0, 0]

def k0_off170 (v3508 : BitVec 32) : Fin 3 → Nat :=
  let v3514 : Index := Scalar.indexCast v3508
  let c0_825 : Index := 0#32
  ![v3514.toNat, 0, 0]

def k0_chk114 (v3508 : BitVec 32) : Prop :=
  (∀ a, (k0_off170 v3508) a + S1x2x1024.size a ≤ S64x2x1024.size a)
theorem k0_off170_inb : ∀ (v3508 : BitVec 32) (k0_hw114 : k0_chk114 v3508), ∀ a, (k0_off170 v3508) a + S1x2x1024.size a ≤ S64x2x1024.size a := fun v3508 k0_hw114 => k0_hw114

def k0_off171 (v3509 : BitVec 32) : Fin 3 → Nat :=
  let v3521 : Index := Scalar.indexCast v3509
  let c0_827 : Index := 0#32
  ![v3521.toNat, 0, 0]

def k0_chk113 (v3509 : BitVec 32) : Prop :=
  (∀ a, (k0_off169 v3509) a + S1x2x1024.size a ≤ S64x2x1024.size a) ∧
  (∀ a, (k0_off171 v3509) a + S1x2x1024.size a ≤ S64x2x1024.size a)
theorem k0_off169_inb : ∀ (v3509 : BitVec 32) (k0_hw113 : k0_chk113 v3509), ∀ a, (k0_off169 v3509) a + S1x2x1024.size a ≤ S64x2x1024.size a := fun v3509 k0_hw113 => k0_hw113.1
theorem k0_off171_inb : ∀ (v3509 : BitVec 32) (k0_hw113 : k0_chk113 v3509), ∀ a, (k0_off171 v3509) a + S1x2x1024.size a ≤ S64x2x1024.size a := fun v3509 k0_hw113 => k0_hw113.2

def k0_off172 (v3568 : BitVec 32) : Fin 3 → Nat :=
  let v3569 : Index := Scalar.indexCast v3568
  let c0_837 : Index := 0#32
  ![v3569.toNat, 0, 0]

def k0_off173 (v3567 : BitVec 32) : Fin 3 → Nat :=
  let v3573 : Index := Scalar.indexCast v3567
  let c0_839 : Index := 0#32
  ![v3573.toNat, 0, 0]

def k0_chk116 (v3567 : BitVec 32) : Prop :=
  (∀ a, (k0_off173 v3567) a + S1x2x1024.size a ≤ S64x2x1024.size a)
theorem k0_off173_inb : ∀ (v3567 : BitVec 32) (k0_hw116 : k0_chk116 v3567), ∀ a, (k0_off173 v3567) a + S1x2x1024.size a ≤ S64x2x1024.size a := fun v3567 k0_hw116 => k0_hw116

def k0_off174 (v3568 : BitVec 32) : Fin 3 → Nat :=
  let v3580 : Index := Scalar.indexCast v3568
  let c0_841 : Index := 0#32
  ![v3580.toNat, 0, 0]

def k0_chk115 (v3568 : BitVec 32) : Prop :=
  (∀ a, (k0_off172 v3568) a + S1x2x1024.size a ≤ S64x2x1024.size a) ∧
  (∀ a, (k0_off174 v3568) a + S1x2x1024.size a ≤ S64x2x1024.size a)
theorem k0_off172_inb : ∀ (v3568 : BitVec 32) (k0_hw115 : k0_chk115 v3568), ∀ a, (k0_off172 v3568) a + S1x2x1024.size a ≤ S64x2x1024.size a := fun v3568 k0_hw115 => k0_hw115.1
theorem k0_off174_inb : ∀ (v3568 : BitVec 32) (k0_hw115 : k0_chk115 v3568), ∀ a, (k0_off174 v3568) a + S1x2x1024.size a ≤ S64x2x1024.size a := fun v3568 k0_hw115 => k0_hw115.2

def k0_off175 (v3632 : BitVec 32) : Fin 3 → Nat :=
  let v3633 : Index := Scalar.indexCast v3632
  let c0_852 : Index := 0#32
  ![v3633.toNat, 0, 0]

def k0_off176 (v3631 : BitVec 32) : Fin 3 → Nat :=
  let v3637 : Index := Scalar.indexCast v3631
  let c0_854 : Index := 0#32
  ![v3637.toNat, 0, 0]

def k0_chk118 (v3631 : BitVec 32) : Prop :=
  (∀ a, (k0_off176 v3631) a + S1x2x1024.size a ≤ S64x2x1024.size a)
theorem k0_off176_inb : ∀ (v3631 : BitVec 32) (k0_hw118 : k0_chk118 v3631), ∀ a, (k0_off176 v3631) a + S1x2x1024.size a ≤ S64x2x1024.size a := fun v3631 k0_hw118 => k0_hw118

def k0_off177 (v3632 : BitVec 32) : Fin 3 → Nat :=
  let v3644 : Index := Scalar.indexCast v3632
  let c0_856 : Index := 0#32
  ![v3644.toNat, 0, 0]

def k0_chk117 (v3632 : BitVec 32) : Prop :=
  (∀ a, (k0_off175 v3632) a + S1x2x1024.size a ≤ S64x2x1024.size a) ∧
  (∀ a, (k0_off177 v3632) a + S1x2x1024.size a ≤ S64x2x1024.size a)
theorem k0_off175_inb : ∀ (v3632 : BitVec 32) (k0_hw117 : k0_chk117 v3632), ∀ a, (k0_off175 v3632) a + S1x2x1024.size a ≤ S64x2x1024.size a := fun v3632 k0_hw117 => k0_hw117.1
theorem k0_off177_inb : ∀ (v3632 : BitVec 32) (k0_hw117 : k0_chk117 v3632), ∀ a, (k0_off177 v3632) a + S1x2x1024.size a ≤ S64x2x1024.size a := fun v3632 k0_hw117 => k0_hw117.2

def k0_off178 (v3691 : BitVec 32) : Fin 3 → Nat :=
  let v3692 : Index := Scalar.indexCast v3691
  let c0_865 : Index := 0#32
  ![v3692.toNat, 0, 0]

def k0_off179 (v3690 : BitVec 32) : Fin 3 → Nat :=
  let v3696 : Index := Scalar.indexCast v3690
  let c0_867 : Index := 0#32
  ![v3696.toNat, 0, 0]

def k0_chk120 (v3690 : BitVec 32) : Prop :=
  (∀ a, (k0_off179 v3690) a + S1x2x1024.size a ≤ S64x2x1024.size a)
theorem k0_off179_inb : ∀ (v3690 : BitVec 32) (k0_hw120 : k0_chk120 v3690), ∀ a, (k0_off179 v3690) a + S1x2x1024.size a ≤ S64x2x1024.size a := fun v3690 k0_hw120 => k0_hw120

def k0_off180 (v3691 : BitVec 32) : Fin 3 → Nat :=
  let v3703 : Index := Scalar.indexCast v3691
  let c0_869 : Index := 0#32
  ![v3703.toNat, 0, 0]

def k0_chk119 (v3691 : BitVec 32) : Prop :=
  (∀ a, (k0_off178 v3691) a + S1x2x1024.size a ≤ S64x2x1024.size a) ∧
  (∀ a, (k0_off180 v3691) a + S1x2x1024.size a ≤ S64x2x1024.size a)
theorem k0_off178_inb : ∀ (v3691 : BitVec 32) (k0_hw119 : k0_chk119 v3691), ∀ a, (k0_off178 v3691) a + S1x2x1024.size a ≤ S64x2x1024.size a := fun v3691 k0_hw119 => k0_hw119.1
theorem k0_off180_inb : ∀ (v3691 : BitVec 32) (k0_hw119 : k0_chk119 v3691), ∀ a, (k0_off180 v3691) a + S1x2x1024.size a ≤ S64x2x1024.size a := fun v3691 k0_hw119 => k0_hw119.2

def k0_off181 (v3755 : BitVec 32) : Fin 3 → Nat :=
  let v3756 : Index := Scalar.indexCast v3755
  let c0_880 : Index := 0#32
  ![v3756.toNat, 0, 0]

def k0_off182 (v3754 : BitVec 32) : Fin 3 → Nat :=
  let v3760 : Index := Scalar.indexCast v3754
  let c0_882 : Index := 0#32
  ![v3760.toNat, 0, 0]

def k0_chk122 (v3754 : BitVec 32) : Prop :=
  (∀ a, (k0_off182 v3754) a + S1x2x1024.size a ≤ S64x2x1024.size a)
theorem k0_off182_inb : ∀ (v3754 : BitVec 32) (k0_hw122 : k0_chk122 v3754), ∀ a, (k0_off182 v3754) a + S1x2x1024.size a ≤ S64x2x1024.size a := fun v3754 k0_hw122 => k0_hw122

def k0_off183 (v3755 : BitVec 32) : Fin 3 → Nat :=
  let v3767 : Index := Scalar.indexCast v3755
  let c0_884 : Index := 0#32
  ![v3767.toNat, 0, 0]

def k0_chk121 (v3755 : BitVec 32) : Prop :=
  (∀ a, (k0_off181 v3755) a + S1x2x1024.size a ≤ S64x2x1024.size a) ∧
  (∀ a, (k0_off183 v3755) a + S1x2x1024.size a ≤ S64x2x1024.size a)
theorem k0_off181_inb : ∀ (v3755 : BitVec 32) (k0_hw121 : k0_chk121 v3755), ∀ a, (k0_off181 v3755) a + S1x2x1024.size a ≤ S64x2x1024.size a := fun v3755 k0_hw121 => k0_hw121.1
theorem k0_off183_inb : ∀ (v3755 : BitVec 32) (k0_hw121 : k0_chk121 v3755), ∀ a, (k0_off183 v3755) a + S1x2x1024.size a ≤ S64x2x1024.size a := fun v3755 k0_hw121 => k0_hw121.2

def k0_off184 (v3814 : BitVec 32) : Fin 3 → Nat :=
  let v3815 : Index := Scalar.indexCast v3814
  let c0_894 : Index := 0#32
  ![v3815.toNat, 0, 0]

def k0_off185 (v3813 : BitVec 32) : Fin 3 → Nat :=
  let v3819 : Index := Scalar.indexCast v3813
  let c0_896 : Index := 0#32
  ![v3819.toNat, 0, 0]

def k0_chk124 (v3813 : BitVec 32) : Prop :=
  (∀ a, (k0_off185 v3813) a + S1x2x1024.size a ≤ S64x2x1024.size a)
theorem k0_off185_inb : ∀ (v3813 : BitVec 32) (k0_hw124 : k0_chk124 v3813), ∀ a, (k0_off185 v3813) a + S1x2x1024.size a ≤ S64x2x1024.size a := fun v3813 k0_hw124 => k0_hw124

def k0_off186 (v3814 : BitVec 32) : Fin 3 → Nat :=
  let v3826 : Index := Scalar.indexCast v3814
  let c0_898 : Index := 0#32
  ![v3826.toNat, 0, 0]

def k0_chk123 (v3814 : BitVec 32) : Prop :=
  (∀ a, (k0_off184 v3814) a + S1x2x1024.size a ≤ S64x2x1024.size a) ∧
  (∀ a, (k0_off186 v3814) a + S1x2x1024.size a ≤ S64x2x1024.size a)
theorem k0_off184_inb : ∀ (v3814 : BitVec 32) (k0_hw123 : k0_chk123 v3814), ∀ a, (k0_off184 v3814) a + S1x2x1024.size a ≤ S64x2x1024.size a := fun v3814 k0_hw123 => k0_hw123.1
theorem k0_off186_inb : ∀ (v3814 : BitVec 32) (k0_hw123 : k0_chk123 v3814), ∀ a, (k0_off186 v3814) a + S1x2x1024.size a ≤ S64x2x1024.size a := fun v3814 k0_hw123 => k0_hw123.2

def k0_off187 (v3878 : BitVec 32) : Fin 3 → Nat :=
  let v3879 : Index := Scalar.indexCast v3878
  let c0_909 : Index := 0#32
  ![v3879.toNat, 0, 0]

def k0_off188 (v3877 : BitVec 32) : Fin 3 → Nat :=
  let v3883 : Index := Scalar.indexCast v3877
  let c0_911 : Index := 0#32
  ![v3883.toNat, 0, 0]

def k0_chk126 (v3877 : BitVec 32) : Prop :=
  (∀ a, (k0_off188 v3877) a + S1x2x1024.size a ≤ S64x2x1024.size a)
theorem k0_off188_inb : ∀ (v3877 : BitVec 32) (k0_hw126 : k0_chk126 v3877), ∀ a, (k0_off188 v3877) a + S1x2x1024.size a ≤ S64x2x1024.size a := fun v3877 k0_hw126 => k0_hw126

def k0_off189 (v3878 : BitVec 32) : Fin 3 → Nat :=
  let v3890 : Index := Scalar.indexCast v3878
  let c0_913 : Index := 0#32
  ![v3890.toNat, 0, 0]

def k0_chk125 (v3878 : BitVec 32) : Prop :=
  (∀ a, (k0_off187 v3878) a + S1x2x1024.size a ≤ S64x2x1024.size a) ∧
  (∀ a, (k0_off189 v3878) a + S1x2x1024.size a ≤ S64x2x1024.size a)
theorem k0_off187_inb : ∀ (v3878 : BitVec 32) (k0_hw125 : k0_chk125 v3878), ∀ a, (k0_off187 v3878) a + S1x2x1024.size a ≤ S64x2x1024.size a := fun v3878 k0_hw125 => k0_hw125.1
theorem k0_off189_inb : ∀ (v3878 : BitVec 32) (k0_hw125 : k0_chk125 v3878), ∀ a, (k0_off189 v3878) a + S1x2x1024.size a ≤ S64x2x1024.size a := fun v3878 k0_hw125 => k0_hw125.2

def k0_off190 (v3937 : BitVec 32) : Fin 3 → Nat :=
  let v3938 : Index := Scalar.indexCast v3937
  let c0_922 : Index := 0#32
  ![v3938.toNat, 0, 0]

def k0_off191 (v3936 : BitVec 32) : Fin 3 → Nat :=
  let v3942 : Index := Scalar.indexCast v3936
  let c0_924 : Index := 0#32
  ![v3942.toNat, 0, 0]

def k0_chk128 (v3936 : BitVec 32) : Prop :=
  (∀ a, (k0_off191 v3936) a + S1x2x1024.size a ≤ S64x2x1024.size a)
theorem k0_off191_inb : ∀ (v3936 : BitVec 32) (k0_hw128 : k0_chk128 v3936), ∀ a, (k0_off191 v3936) a + S1x2x1024.size a ≤ S64x2x1024.size a := fun v3936 k0_hw128 => k0_hw128

def k0_off192 (v3937 : BitVec 32) : Fin 3 → Nat :=
  let v3949 : Index := Scalar.indexCast v3937
  let c0_926 : Index := 0#32
  ![v3949.toNat, 0, 0]

def k0_chk127 (v3937 : BitVec 32) : Prop :=
  (∀ a, (k0_off190 v3937) a + S1x2x1024.size a ≤ S64x2x1024.size a) ∧
  (∀ a, (k0_off192 v3937) a + S1x2x1024.size a ≤ S64x2x1024.size a)
theorem k0_off190_inb : ∀ (v3937 : BitVec 32) (k0_hw127 : k0_chk127 v3937), ∀ a, (k0_off190 v3937) a + S1x2x1024.size a ≤ S64x2x1024.size a := fun v3937 k0_hw127 => k0_hw127.1
theorem k0_off192_inb : ∀ (v3937 : BitVec 32) (k0_hw127 : k0_chk127 v3937), ∀ a, (k0_off192 v3937) a + S1x2x1024.size a ≤ S64x2x1024.size a := fun v3937 k0_hw127 => k0_hw127.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S48x1x8192 : Shape := ⟨3, ![48, 1, 8192]⟩
abbrev S4096x29696 : Shape := ⟨2, ![4096, 29696]⟩
abbrev S64x29696 : Shape := ⟨2, ![64, 29696]⟩
abbrev S32x29696 : Shape := ⟨2, ![32, 29696]⟩
abbrev S8192 : Shape := ⟨1, ![8192]⟩
abbrev S_ : Shape := ⟨0, ![]⟩
abbrev S8192x1 : Shape := ⟨2, ![8192, 1]⟩
abbrev S48x1x4096 : Shape := ⟨3, ![48, 1, 4096]⟩
abbrev S48x1x64x64 : Shape := ⟨4, ![48, 1, 64, 64]⟩
abbrev S64 : Shape := ⟨1, ![64]⟩
abbrev S64x1 : Shape := ⟨2, ![64, 1]⟩
abbrev S64x1x29696 : Shape := ⟨3, ![64, 1, 29696]⟩
abbrev S64x64x29696 : Shape := ⟨3, ![64, 64, 29696]⟩
abbrev S48x1x29696 : Shape := ⟨3, ![48, 1, 29696]⟩
abbrev S48x29696 : Shape := ⟨2, ![48, 29696]⟩

abbrev nBuf : Space → Nat
  | .hbm => 94
  | .vmem => 0
  | .smem => 0
  | _ => 0

abbrev bufTy : (tb : Table) → Fin (tcTables nBuf tb) → BufTy
  | .hbm, ⟨0, _⟩ => ⟨S48x1x8192, .bf16⟩
  | .hbm, ⟨1, _⟩ => ⟨S4096x29696, .i8⟩
  | .hbm, ⟨2, _⟩ => ⟨S64x29696, .bf16⟩
  | .hbm, ⟨3, _⟩ => ⟨S32x29696, .i8⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S48x1x8192, .bf16⟩
  | .hbm, ⟨15, _⟩ => ⟨S48x1x4096, .bf16⟩
  | .hbm, ⟨16, _⟩ => ⟨S48x1x64x64, .bf16⟩
  | .hbm, ⟨17, _⟩ => ⟨S48x1x4096, .bf16⟩
  | .hbm, ⟨18, _⟩ => ⟨S48x1x64x64, .bf16⟩
  | .hbm, ⟨19, _⟩ => ⟨S32x29696, .i32⟩
  | .hbm, ⟨20, _⟩ => ⟨S_, .i32⟩
  | .hbm, ⟨21, _⟩ => ⟨S32x29696, .i32⟩
  | .hbm, ⟨22, _⟩ => ⟨S32x29696, .i32⟩
  | .hbm, ⟨23, _⟩ => ⟨S_, .i32⟩
  | .hbm, ⟨24, _⟩ => ⟨S32x29696, .i32⟩
  | .hbm, ⟨25, _⟩ => ⟨S32x29696, .i32⟩
  | .hbm, ⟨26, _⟩ => ⟨S64x29696, .i32⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64x29696, .i32⟩
  | .hbm, ⟨38, _⟩ => ⟨S64x29696, .bf16⟩
  | .hbm, ⟨39, _⟩ => ⟨S64x1x29696, .bf16⟩
  | .hbm, ⟨40, _⟩ => ⟨S_, .i32⟩
  | .hbm, ⟨41, _⟩ => ⟨S64, .i32⟩
  | .hbm, ⟨42, _⟩ => ⟨S64, .i1⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S64, .i32⟩
  | .hbm, ⟨47, _⟩ => ⟨S64x1, .i32⟩
  | .hbm, ⟨48, _⟩ => ⟨S64x29696, .i32⟩
  | .hbm, ⟨49, _⟩ => ⟨S64x29696, .bf16⟩
  | .hbm, ⟨50, _⟩ => ⟨S64x1x29696, .bf16⟩
  | .hbm, ⟨51, _⟩ => ⟨S_, .i32⟩
  | .hbm, ⟨52, _⟩ => ⟨S64, .i32⟩
  | .hbm, ⟨53, _⟩ => ⟨S64, .i1⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S64x29696, .bf16⟩
  | .hbm, ⟨60, _⟩ => ⟨S64x1x29696, .bf16⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .i32⟩
  | .hbm, ⟨69, _⟩ => ⟨S64x29696, .bf16⟩
  | .hbm, ⟨70, _⟩ => ⟨S64x1x29696, .bf16⟩
  | .hbm, ⟨71, _⟩ => ⟨S4096x29696, .i32⟩
  | .hbm, ⟨72, _⟩ => ⟨S64x64x29696, .i32⟩
  | .hbm, ⟨73, _⟩ => ⟨S_, .i32⟩
  | .hbm, ⟨74, _⟩ => ⟨S64x64x29696, .i32⟩
  | .hbm, ⟨75, _⟩ => ⟨S64x64x29696, .i32⟩
  | .hbm, ⟨76, _⟩ => ⟨S64x64x29696, .bf16⟩
  | .hbm, ⟨77, _⟩ => ⟨S64x64x29696, .bf16⟩
  | .hbm, ⟨78, _⟩ => ⟨S64x64x29696, .bf16⟩
  | .hbm, ⟨79, _⟩ => ⟨S64x64x29696, .bf16⟩
  | .hbm, ⟨80, _⟩ => ⟨S64x64x29696, .bf16⟩
  | .hbm, ⟨81, _⟩ => ⟨S_, .i32⟩
  | .hbm, ⟨82, _⟩ => ⟨S64x64x29696, .i32⟩
  | .hbm, ⟨83, _⟩ => ⟨S64x64x29696, .i32⟩
  | .hbm, ⟨84, _⟩ => ⟨S64x64x29696, .bf16⟩
  | .hbm, ⟨85, _⟩ => ⟨S64x64x29696, .bf16⟩
  | .hbm, ⟨86, _⟩ => ⟨S64x64x29696, .bf16⟩
  | .hbm, ⟨87, _⟩ => ⟨S64x64x29696, .bf16⟩
  | .hbm, ⟨88, _⟩ => ⟨S64x64x29696, .bf16⟩
  | .hbm, ⟨89, _⟩ => ⟨S48x1x29696, .f32⟩
  | .hbm, ⟨90, _⟩ => ⟨S48x1x29696, .f32⟩
  | .hbm, ⟨91, _⟩ => ⟨S48x1x29696, .f32⟩
  | .hbm, ⟨92, _⟩ => ⟨S48x1x29696, .bf16⟩
  | .hbm, ⟨93, _⟩ => ⟨S48x29696, .bf16⟩
  | _, _ => ⟨S48x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_9 : Ref sig .tc := ⟨.hbm, 61, rfl⟩
abbrev main_v45 : Ref sig .tc := ⟨.hbm, 62, rfl⟩
abbrev main_v46 : Ref sig .tc := ⟨.hbm, 63, rfl⟩
abbrev main_c_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Proof.Groups.lean ====
/- The precondition read at one word: every group index the kernel reads lies in [0, 64), so the row it names is inside
   the kernel's tables of 64 rows (hand-written, untrusted). -/
module

public import proofs.«01_k».proof.Defs
public import proofs.«01_k».proof.Proof.Gen.Pre_groups_in_range

@[expose] public section

set_option maxRecDepth 16384

noncomputable section

namespace Cert.Proof.Groups

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

open Cert.Pre_groups_in_range in
/-- The printed test `(w ≥ 0) & (w < 64)` holding of a word says that the word, read as a natural number, is below 64. -/
theorem lt_of_tests (w : BitVec 32) (h : IntOp.andi (IntOp.cmpi .sge w 0#32) (IntOp.cmpi .slt w 64#32) = 1#1) :
    w.toNat < 64 := by
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

variable {F : FTy → Type} [FloatOps F]

open Cert.Pre_groups_in_range in
/-- Under the precondition the group index of the even rows of every group is below 64, -/
theorem lo_lt (x : FVec F S48x1x8192 .bf16) (q : IVec S4096x29696 8) (s : FVec F S64x29696 .bf16) (z : IVec S32x29696 8)
    (g p : IVec S8192 32) (h : (fn (F := F) x q s z g p).1 = fun _ => 1#1) (j : S64.Idx) :
    (Host.slice S64 ![0] ![128] g Gen.slicesBy_S8192_S64_0s128 j).toNat < 64 :=
  lt_of_tests _ (congrFun h j)

open Cert.Pre_groups_in_range in
/-- and so is that of the odd rows. -/
theorem hi_lt (x : FVec F S48x1x8192 .bf16) (q : IVec S4096x29696 8) (s : FVec F S64x29696 .bf16) (z : IVec S32x29696 8)
    (g p : IVec S8192 32) (h : (fn (F := F) x q s z g p).2 = fun _ => 1#1) (j : S64.Idx) :
    (Host.slice S64 ![1] ![128] g Gen.slicesBy_S8192_S64_1s128 j).toNat < 64 :=
  lt_of_tests _ (congrFun h j)

end Cert.Proof.Groups

end
-- ==== Proof.Tables.lean ====
/- The two tables of group indices the kernel prefetches, as slices of the argument, and the side conditions its
   body assumes of their words, from the precondition (hand-written, untrusted). -/
module

public import proofs.«01_k».proof.Defs
public import proofs.«01_k».proof.Proof.Groups
public import proofs.«01_k».proof.Proof.Gen.Kernel.Frame.Runs

@[expose] public section

set_option maxRecDepth 16384

noncomputable section

namespace Cert.Kernel.Tables

open Idealize.ShloMosaic Idealize.ShloMosaic.TcCoe Idealize.ShloMosaic.StableHlo
open Cert.Kernel Cert.Kernel.Gen

variable {F : FTy → Type} [BitOps F]
variable (m : (ℓ : Loc nD τ sig) → Buf (Elt F) ℓ)

/-- Table 0 holds the group index of the even rows of every group: every 128th entry of the argument, from entry 0. -/
theorem tbl_lo : tbl m 0 = Host.slice S64 ![0] ![128] (m (((0 : Dev nD) : Thread nD τ).loc main_arg4)) slicesBy_S8192_S64_0s128 := by
  show StableHlo.after hostOps0 (fun b => m ((0 : Dev nD), b)) main_v8 = _
  after_results_simp <;> rfl

/-- Table 1 holds that of the odd rows: every 128th entry, from entry 1. -/
theorem tbl_hi : tbl m 1 = Host.slice S64 ![1] ![128] (m (((0 : Dev nD) : Thread nD τ).loc main_arg4)) slicesBy_S8192_S64_1s128 := by
  show StableHlo.after hostOps0 (fun b => m ((0 : Dev nD), b)) main_v9 = _
  after_results_simp <;> rfl

/-- No window's index map reads a table: nothing is asked of them. -/
theorem ok : Ok m := trivial

/-- A word below 64 names a row inside the tables of 64 rows. -/
theorem row_in (w : BitVec 32) (h : w.toNat < 64) :
    ∀ a : Fin 2, (![w.toNat, 0] : Fin 2 → Nat) a + S1x1024.size a ≤ S64x1024.size a := by
  intro a
  match a with
  | ⟨0, _⟩ => show w.toNat + 1 ≤ 64; omega
  | ⟨1, _⟩ => exact Nat.le_refl _

set_option maxHeartbeats 800000 in
/-- The side conditions the body assumes, from the bounds on the two tables' words: each is that a word of a table names
    a row inside a scratch table. -/
theorem hyps (h0 : ∀ j, ((tbl m 0 : S64.Idx → BitVec 32) j).toNat < 64) (h1 : ∀ j, ((tbl m 1 : S64.Idx → BitVec 32) j).toNat < 64) : Hyps m (ok m) := by
  unfold Hyps
  intro c _
  generalize tbl m = T at h0 h1 ⊢
  have r0 : ∀ (r : LoadRect S64) x, BitVec.toNat (tbM0_0.view.readAt (Elt F) r (T 0) x) < 64 := fun r x => h0 _
  have r1 : ∀ (r : LoadRect S64) x, BitVec.toNat (tbM0_1.view.readAt (Elt F) r (T 1) x) < 64 := fun r x => h1 _
  clear h0 h1
  repeat' apply And.intro
  all_goals
    refine row_in _ ?_
    first
      | exact r0 _ _
      | exact r1 _ _

end Cert.Kernel.Tables

end
-- ==== Proof.TablesIdeal.lean ====
/- The two tables of group indices the idealized kernel prefetches, as slices of the argument, and the side conditions its
   body assumes of their words, from the precondition (hand-written, untrusted). -/
module

public import proofs.«01_k».proof.Defs
public import proofs.«01_k».proof.Proof.Groups
public import proofs.«01_k».proof.Proof.Gen.KernelIdeal.Frame.Runs

@[expose] public section

set_option maxRecDepth 16384

noncomputable section

namespace Cert.KernelIdeal.Tables

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

/-- Table 0 holds the group index of the even rows of every group: every 128th entry of the argument, from entry 0. -/
theorem tbl_lo : tbl m 0 = Host.slice S64 ![0] ![128] (m (((0 : Dev nD) : Thread nD τ).loc main_arg4)) slicesBy_S8192_S64_0s128 := by
  show StableHlo.after hostOps0 (fun b => m ((0 : Dev nD), b)) main_v8 = _
  after_results_simp <;> rfl

/-- Table 1 holds that of the odd rows: every 128th entry, from entry 1. -/
theorem tbl_hi : tbl m 1 = Host.slice S64 ![1] ![128] (m (((0 : Dev nD) : Thread nD τ).loc main_arg4)) slicesBy_S8192_S64_1s128 := by
  show StableHlo.after hostOps0 (fun b => m ((0 : Dev nD), b)) main_v9 = _
  after_results_simp <;> rfl

/-- No window's index map reads a table: nothing is asked of them. -/
theorem ok : Ok m := trivial

/-- A word below 64 names a row inside the tables of 64 rows. -/
theorem row_in (w : BitVec 32) (h : w.toNat < 64) :
    ∀ a : Fin 3, (![w.toNat, 0, 0] : Fin 3 → Nat) a + S1x2x1024.size a ≤ S64x2x1024.size a := by
  intro a
  match a with
  | ⟨0, _⟩ => show w.toNat + 1 ≤ 64; omega
  | ⟨1, _⟩ => exact Nat.le_refl _
  | ⟨2, _⟩ => exact Nat.le_refl _

set_option maxHeartbeats 800000 in
/-- The side conditions the body assumes, from the bounds on the two tables' words: each is that a word of a table names
    a row inside a scratch table. -/
theorem hyps (h0 : ∀ j, ((tbl m 0 : S64.Idx → BitVec 32) j).toNat < 64) (h1 : ∀ j, ((tbl m 1 : S64.Idx → BitVec 32) j).toNat < 64) : Hyps m (ok m) := by
  unfold Hyps
  intro c _
  generalize tbl m = T at h0 h1 ⊢
  have r0 : ∀ (r : LoadRect S64) x, BitVec.toNat (tbM0_0.view.readAt (Elt F) r (T 0) x) < 64 := fun r x => h0 _
  have r1 : ∀ (r : LoadRect S64) x, BitVec.toNat (tbM0_1.view.readAt (Elt F) r (T 1) x) < 64 := fun r x => h1 _
  clear h0 h1
  repeat' apply And.intro
  all_goals
    refine row_in _ ?_
    first
      | exact r0 _ _
      | exact r1 _ _

end Cert.KernelIdeal.Tables

end
-- ==== Proof.Frames.lean ====
/- The claims that no value enters: each program runs, ends with its arguments unchanged and every counter at zero, and
   the idealized kernel is the kernel rewritten by the rules of packed pairs (hand-written, untrusted). -/
module

public import proofs.«01_k».proof.Defs
public import proofs.«01_k».proof.Proof.Tables
public import proofs.«01_k».proof.Proof.TablesIdeal
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Lib.Bf16PairInverse

@[expose] public section

set_option maxRecDepth 16384

noncomputable section

namespace Cert.Proof.Frames

open Idealize.ShloMosaic Idealize.SL.Sem

/-- The kernel's side conditions hold: the precondition bounds the words of both prefetched tables. -/
theorem hyps_kernel (m : (ℓ : Loc Cert.Kernel.nD Cert.Kernel.τ Cert.Kernel.sig) → Buf (Elt Bits) ℓ) (h : Pre_Kernel m) :
    Cert.Kernel.Gen.Hyps m (Cert.Kernel.Tables.ok m) :=
  Cert.Kernel.Tables.hyps m
    (fun j => by rw [Cert.Kernel.Tables.tbl_lo m]; exact Groups.lo_lt _ _ _ _ _ _ (h 0).1 j)
    (fun j => by rw [Cert.Kernel.Tables.tbl_hi m]; exact Groups.hi_lt _ _ _ _ _ _ (h 0).2 j)

/-- So do the idealized kernel's. -/
theorem hyps_ideal (m : (ℓ : Loc Cert.KernelIdeal.nD Cert.KernelIdeal.τ Cert.KernelIdeal.sig) → Buf (Elt Ideal) ℓ)
    (h : Pre_KernelIdeal m) : Cert.KernelIdeal.Gen.Hyps m (Cert.KernelIdeal.Tables.ok m) :=
  Cert.KernelIdeal.Tables.hyps m
    (fun j => by rw [Cert.KernelIdeal.Tables.tbl_lo m]; exact Groups.lo_lt _ _ _ _ _ _ (h 0).1 j)
    (fun j => by rw [Cert.KernelIdeal.Tables.tbl_hi m]; exact Groups.hi_lt _ _ _ _ _ _ (h 0).2 j)

theorem kernel : quiescent_Kernel := fun m ρ h => Cert.Kernel.Gen.frame m ρ (Cert.Kernel.Tables.ok m) (hyps_kernel m h)

theorem kernelIdeal : quiescent_KernelIdeal :=
  fun m ρ h => Cert.KernelIdeal.Gen.frame m ρ (Cert.KernelIdeal.Tables.ok m) (hyps_ideal m h)

theorem referenceIdeal : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem referenceIdeal_pre : quiescent_ReferenceIdeal_pre_groups_in_range := fun m ρ _ => referenceIdeal m ρ trivial

open Cert.KernelIdeal IdealRules.bf16_pair in
theorem preserves : preserves_Kernel_KernelIdeal :=
  ⟨bufferStatement S64x2x1024 S64x1x1024, halfStatement S64x1024, statement S64x2x1024 S64x1x1024, halfStatement S32x1024,
    statement S32x2x1024 S32x1x1024, statement S1x2x1024 S1x1x1024, statement S16x1024 S8x1024⟩

end Cert.Proof.Frames

end
-- ==== Proof.Model.lean ====
/- What one point of the idealized kernel computes, written once: the body's loads, one group's scale and zero tiles, one
   step of the contraction, and the accumulator after all the steps; and that this is what the run of the body leaves in
   the output block (hand-written, untrusted). -/
module

public import proofs.«01_k».proof.Proof.TablesIdeal
public import proofs.«01_k».proof.Proof.Gen.KernelIdeal.Frame

@[expose] public section

set_option maxRecDepth 16384

noncomputable section

namespace Cert.KernelIdeal.Model

open Idealize.ShloMosaic Idealize.ShloMosaic.TcCoe Idealize.ShloMosaic.Tactic
open Cert.KernelIdeal Cert.KernelIdeal.Gen

variable {F : FTy → Type} [FloatOps F]

/-! ## One step -/

/-- Sixteen rows of a group's weights: the codes less the zero points, times the scales. -/
def piece (q z s : FVec F S16x1024 .bf16) : FVec F S16x1024 .bf16 := mulf (subf q z) s

/-- The weights of one step: two groups, each of eight pieces of sixteen rows. -/
def weights (qa : FVec F S128x1024 .bf16) (za sa : FVec F S16x1024 .bf16) (qb : FVec F S128x1024 .bf16)
    (zb sb : FVec F S16x1024 .bf16) : FVec F S256x1024 .bf16 :=
  concatenate S256x1024 0
    [⟨S16x1024, piece (extractStridedSlice S16x1024 ![0, 0] qa slices_S128x1024_o0_0_S16x1024) za sa⟩,
     ⟨S16x1024, piece (extractStridedSlice S16x1024 ![16, 0] qa slices_S128x1024_o16_0_S16x1024) za sa⟩,
     ⟨S16x1024, piece (extractStridedSlice S16x1024 ![32, 0] qa slices_S128x1024_o32_0_S16x1024) za sa⟩,
     ⟨S16x1024, piece (extractStridedSlice S16x1024 ![48, 0] qa slices_S128x1024_o48_0_S16x1024) za sa⟩,
     ⟨S16x1024, piece (extractStridedSlice S16x1024 ![64, 0] qa slices_S128x1024_o64_0_S16x1024) za sa⟩,
     ⟨S16x1024, piece (extractStridedSlice S16x1024 ![80, 0] qa slices_S128x1024_o80_0_S16x1024) za sa⟩,
     ⟨S16x1024, piece (extractStridedSlice S16x1024 ![96, 0] qa slices_S128x1024_o96_0_S16x1024) za sa⟩,
     ⟨S16x1024, piece (extractStridedSlice S16x1024 ![112, 0] qa slices_S128x1024_o112_0_S16x1024) za sa⟩,
     ⟨S16x1024, piece (extractStridedSlice S16x1024 ![0, 0] qb slices_S128x1024_o0_0_S16x1024) zb sb⟩,
     ⟨S16x1024, piece (extractStridedSlice S16x1024 ![16, 0] qb slices_S128x1024_o16_0_S16x1024) zb sb⟩,
     ⟨S16x1024, piece (extractStridedSlice S16x1024 ![32, 0] qb slices_S128x1024_o32_0_S16x1024) zb sb⟩,
     ⟨S16x1024, piece (extractStridedSlice S16x1024 ![48, 0] qb slices_S128x1024_o48_0_S16x1024) zb sb⟩,
     ⟨S16x1024, piece (extractStridedSlice S16x1024 ![64, 0] qb slices_S128x1024_o64_0_S16x1024) zb sb⟩,
     ⟨S16x1024, piece (extractStridedSlice S16x1024 ![80, 0] qb slices_S128x1024_o80_0_S16x1024) zb sb⟩,
     ⟨S16x1024, piece (extractStridedSlice S16x1024 ![96, 0] qb slices_S128x1024_o96_0_S16x1024) zb sb⟩,
     ⟨S16x1024, piece (extractStridedSlice S16x1024 ![112, 0] qb slices_S128x1024_o112_0_S16x1024) zb sb⟩]
    concatenates_S16x1024_S16x1024_S16x1024_S16x1024_S16x1024_S16x1024_S16x1024_S16x1024_S16x1024_S16x1024_S16x1024_S16x1024_S16x1024_S16x1024_S16x1024_S16x1024_S256x1024_d0

/-- One step adds the product of 256 columns of `x` and 256 rows of weights. -/
def step (a : FVec F S48x1024 .f32) (x : Vec F S48x256 .bf16) (w : FVec F S256x1024 .bf16) : FVec F S48x1024 .f32 :=
  addf a (matmul dot_S48x256_S256x1024_S48x1024_1_0_0_1_n_n none (shapeCast S48x256 x shapeCasts_S48x256_S48x256) w
    (constant S48x1024 .f32 0x00000000#32))

/-- The accumulator after `k` of the 32 steps, over the blocks each step and each group reads. -/
def acc (X : Fin 32 → Vec F S48x256 .bf16) (Q : Fin 64 → FVec F S128x1024 .bf16) (Z S : Fin 64 → FVec F S16x1024 .bf16)
    (k : Nat) : k ≤ 32 → FVec F S48x1024 .f32 :=
  Nat.rec (motive := fun k => k ≤ 32 → FVec F S48x1024 .f32) (fun _ => k0_pay18)
    (fun k ih h => step (ih (Nat.le_of_succ_le h)) (X ⟨k, h⟩)
      (weights (Q ⟨2 * k, by omega⟩) (Z ⟨2 * k, by omega⟩) (S ⟨2 * k, by omega⟩)
        (Q ⟨2 * k + 1, by omega⟩) (Z ⟨2 * k + 1, by omega⟩) (S ⟨2 * k + 1, by omega⟩))) k

/-! ## The loads -/

/-- 256 columns of `x`. -/
def ldX (a : Memref sig .tc .vmem S48x8192 .bf16) (ha : a.IsWhole) (x : Vec F S48x8192 .bf16) (k : Fin 32) : Vec F S48x256 .bf16 :=
  a.view.readAt (Elt F) (Rect.unit (s := S48x8192) ![0, 256 * k.val] S48x256.size (by
    intro b; match b with
    | ⟨0, _⟩ => exact Nat.le_refl _
    | ⟨1, _⟩ => show 256 * k.val + 256 ≤ 8192; omega)).toLoadRect (ha.unread x)

/-- 64 rows of packed codes. -/
def ldQ (a : Memref sig .tc .vmem S4096x1024 .i8) (ha : a.IsWhole) (x : Vec F S4096x1024 .i8) (g : Fin 64) : Vec F S64x1024 .i8 :=
  a.view.readAt (Elt F) (Rect.unit (s := S4096x1024) ![64 * g.val, 0] S64x1024.size (by
    intro b; match b with
    | ⟨0, _⟩ => show 64 * g.val + 64 ≤ 4096; omega
    | ⟨1, _⟩ => exact Nat.le_refl _)).toLoadRect (ha.unread x)

/-- One word of a prefetched table. -/
def word (a : Memref sig .tc .smem S64 .i32) (c : Dev nD) (T : TbBuf0 (F := F) c a) (g : Fin 64) : BitVec 32 :=
  a.view.readAt (Elt F) (Rect.unit (s := S64) ![g.val] S1.size (by
    intro b; match b with
    | ⟨0, _⟩ => show g.val + 1 ≤ 64; omega)).toLoadRect T (Shape.Idx.first (numel1_S1.symm ▸ Nat.one_pos))

/-- One row of a scratch table of packed pairs, after the stores `L`. -/
def ldT (a : Memref sig .tc .vmem S64x2x1024 .bf16) (L : List (View.Piece (Elt F) S64x2x1024 .bf16)) (w : BitVec 32)
    (h : w.toNat < 64) : Vec F S1x2x1024 .bf16 :=
  a.view.readAt (Elt F) (Rect.unit (s := S64x2x1024) ![w.toNat, 0, 0] S1x2x1024.size (Tables.row_in w h)).toLoadRect
    (a.view.writes (Elt F) a.view.junk L)

/-! ## The tables of packed pairs, as the body stores them -/

variable (a5 : Memref sig .tc .vmem S64x1024 .bf16) (h5 : a5.IsWhole) (x2 : Vec F S64x1024 .bf16)
variable (a6 : Memref sig .tc .vmem S32x1024 .i8) (h6 : a6.IsWhole) (x3 : Vec F S32x1024 .i8)

def rdS : Vec F S64x1024 .bf16 :=
  a5.view.readAt (Elt F) (Rect.unit (s := S64x1024) ![0, 0] S64x1024.size inb_S64x1024_S64x1024_0_0).toLoadRect (h5.unread x2)

def rdZ : Vec F S32x1024 .i8 :=
  a6.view.readAt (Elt F) (Rect.unit (s := S32x1024) ![0, 0] S32x1024.size inb_S32x1024_S32x1024_0_0).toLoadRect (h6.unread x3)

/-- The scales as high halves, -/
def sTop : List (View.Piece (Elt F) S64x2x1024 .bf16) :=
  [⟨Rect.unit (s := S64x2x1024) ![0, 0, 0] S64x2x1024.size inb_S64x2x1024_S64x2x1024_0_0_0, k0_pay8 (rdS a5 h5 x2)⟩]

/-- as low halves, -/
def sBot : List (View.Piece (Elt F) S64x2x1024 .bf16) :=
  [⟨Rect.unit (s := S64x2x1024) ![0, 0, 0] S64x2x1024.size inb_S64x2x1024_S64x2x1024_0_0_0, k0_pay9 (rdS a5 h5 x2)⟩]

/-- the zero points as high halves: the low nibbles in the first 32 rows and the high nibbles in the last, -/
def zTop : List (View.Piece (Elt F) S64x2x1024 .bf16) :=
  [⟨Rect.unit (s := S64x2x1024) ![32, 0, 0] S32x2x1024.size inb_S64x2x1024_S32x2x1024_32_0_0, k0_pay15 (k0_pay11 (rdZ a6 h6 x3)) k0_pay12⟩,
   ⟨Rect.unit (s := S64x2x1024) ![0, 0, 0] S32x2x1024.size inb_S64x2x1024_S32x2x1024_0_0_0, k0_pay14 (k0_pay10 (rdZ a6 h6 x3)) k0_pay13⟩]

/-- and as low halves. -/
def zBot : List (View.Piece (Elt F) S64x2x1024 .bf16) :=
  [⟨Rect.unit (s := S64x2x1024) ![32, 0, 0] S32x2x1024.size inb_S64x2x1024_S32x2x1024_32_0_0, k0_pay17 (k0_pay11 (rdZ a6 h6 x3)) k0_pay12⟩,
   ⟨Rect.unit (s := S64x2x1024) ![0, 0, 0] S32x2x1024.size inb_S64x2x1024_S32x2x1024_0_0_0, k0_pay16 (k0_pay10 (rdZ a6 h6 x3)) k0_pay12⟩]

/-- A tile of a table's rows: even rows the row `lo` names in the low halves, odd rows the row `hi` names in the high. -/
def tile (top bot : Memref sig .tc .vmem S64x2x1024 .bf16) (T B : List (View.Piece (Elt F) S64x2x1024 .bf16)) (lo hi : BitVec 32)
    (hlo : lo.toNat < 64) (hhi : hi.toNat < 64) : FVec F S16x1024 .bf16 :=
  k0_pay21 (ldT top T hi hhi) (ldT bot B lo hlo)

variable (m : (ℓ : Loc nD τ sig) → Buf (Elt F) ℓ)

set_option maxHeartbeats 2000000 in
/-- The output block a point leaves is the accumulator after the 32 steps, rounded. -/
theorem outsAt_eq (hO : Ok m) (hH : Hyps m hO) (c : Dev nD) (t : Fin (cfgM m hO).N)
    (h0 : ∀ g, (word tbM0_0 c (tbl m 0) g).toNat < 64) (h1 : ∀ g, (word tbM0_1 c (tbl m 1) g).toNat < 64) :
    outsAt0 m hO hH c t = VO0_4.read (Elt F) (VO0_4.writes (Elt F) VO0_4.junk
      [⟨Rect.unit (s := S48x1024) ![0, 0] S48x1024.size inb_S48x1024_S48x1024_0_0, truncf .bf16 (acc
        (ldX (ms0_0 m hO t) (hs0_0 m hO t) (iblk m hO c 0 t))
        (fun g => k0_pay22 (ldQ (ms0_1 m hO t) (hs0_1 m hO t) (iblk m hO c 1 t) g))
        (fun g => tile scM0_2 scM0_3 (zTop (ms0_3 m hO t) (hs0_3 m hO t) (iblk m hO c 3 t))
          (zBot (ms0_3 m hO t) (hs0_3 m hO t) (iblk m hO c 3 t)) (word tbM0_0 c (tbl m 0) g) (word tbM0_1 c (tbl m 1) g) (h0 g) (h1 g))
        (fun g => tile scM0_0 scM0_1 (sTop (ms0_2 m hO t) (hs0_2 m hO t) (iblk m hO c 2 t))
          (sBot (ms0_2 m hO t) (hs0_2 m hO t) (iblk m hO c 2 t)) (word tbM0_0 c (tbl m 0) g) (word tbM0_1 c (tbl m 1) g) (h0 g) (h1 g))
        32 (Nat.le_refl _)) bitsLt_bf16_f32⟩]) := by
  sl_kernel_rfl

end Cert.KernelIdeal.Model

end
-- ==== Proof.Tiles.lean ====
/- The blocks one point reads and the tiles its body makes of them, read at an index (hand-written, untrusted). -/
module

public import proofs.«01_k».proof.Proof.Model
public import Idealize.ShloMosaic.Lib.Pointwise
public import Idealize.ShloMosaic.Lib.BitcastPair
public import Idealize.ShloMosaic.Lib.WritesUnit
public import Idealize.ShloMosaic.Lib.VecWindow
public import Idealize.ShloMosaic.Lib.Pipeline.Value

@[expose] public section

set_option maxRecDepth 16384

noncomputable section

namespace Cert.KernelIdeal.Model

open Idealize.ShloMosaic Idealize.ShloMosaic.TcCoe Idealize.ShloMosaic.Tactic Idealize.ShloMosaic.Pointwise
open Cert.KernelIdeal Cert.KernelIdeal.Gen

variable {F : FTy → Type} [FloatOps F]

/-! ## Loads -/

theorem ldX_apply (a : Memref sig .tc .vmem S48x8192 .bf16) (ha : a.IsWhole) (x : Vec F S48x8192 .bf16) (k : Fin 32)
    (i : Fin 48) (j : Fin 256) :
    ldX a ha x k (ix2 i j) = x (ix2 i ⟨256 * k.val + j.val, by omega⟩) := by
  unfold ldX
  rw [View.readAt_apply, Memref.IsWhole.read_unread]
  refine congrArg x (funext fun b => Fin.ext ?_)
  match b with
  | ⟨0, _⟩ => exact (Nat.zero_add _).trans (Nat.one_mul _)
  | ⟨1, _⟩ => exact congrArg (256 * k.val + ·) (Nat.one_mul _)

theorem ldQ_apply (a : Memref sig .tc .vmem S4096x1024 .i8) (ha : a.IsWhole) (x : Vec F S4096x1024 .i8) (g : Fin 64)
    (i : Fin 64) (j : Fin 1024) :
    ldQ a ha x g (ix2 i j) = x (ix2 ⟨64 * g.val + i.val, by omega⟩ j) := by
  unfold ldQ
  rw [View.readAt_apply, Memref.IsWhole.read_unread]
  refine congrArg x (funext fun b => Fin.ext ?_)
  match b with
  | ⟨0, _⟩ => exact congrArg (64 * g.val + ·) (Nat.one_mul _)
  | ⟨1, _⟩ => exact (Nat.zero_add _).trans (Nat.one_mul _)

theorem rdS_eq (a : Memref sig .tc .vmem S64x1024 .bf16) (ha : a.IsWhole) (x : Vec F S64x1024 .bf16) : rdS a ha x = x := by
  unfold rdS
  rw [View.readAt_full, Memref.IsWhole.read_unread]

theorem rdZ_eq (a : Memref sig .tc .vmem S32x1024 .i8) (ha : a.IsWhole) (x : Vec F S32x1024 .i8) : rdZ a ha x = x := by
  unfold rdZ
  rw [View.readAt_full, Memref.IsWhole.read_unread]

/-- The word a table is read at for group `g` is its entry `g`. -/
theorem word_lo (c : Dev nD) (T : TbBuf0 (F := F) c tbM0_0) (g : Fin 64) :
    word tbM0_0 c T g = (T : S64.Idx → BitVec 32) (ix1 g) := by
  refine congrArg (T : S64.Idx → BitVec 32) (funext fun b => Fin.ext ?_)
  match b with
  | ⟨0, _⟩ => rfl

theorem word_hi (c : Dev nD) (T : TbBuf0 (F := F) c tbM0_1) (g : Fin 64) :
    word tbM0_1 c T g = (T : S64.Idx → BitVec 32) (ix1 g) := by
  refine congrArg (T : S64.Idx → BitVec 32) (funext fun b => Fin.ext ?_)
  match b with
  | ⟨0, _⟩ => rfl

/-! ## The tables of packed pairs -/

theorem ldT_apply (a : Memref sig .tc .vmem S64x2x1024 .bf16) (L : List (View.Piece (Elt F) S64x2x1024 .bf16)) (w : BitVec 32)
    (h : w.toNat < 64) (p : Fin 2) (j : Fin 1024) :
    ldT a L w h (ix3 0 p j) = a.view.read (Elt F) (a.view.writes (Elt F) a.view.junk L) (ix3 ⟨w.toNat, h⟩ p j) := by
  unfold ldT
  rw [View.readAt_apply]
  refine congrArg _ (funext fun b => Fin.ext ?_)
  match b with
  | ⟨0, _⟩ => rfl
  | ⟨1, _⟩ => exact (Nat.zero_add _).trans (Nat.one_mul _)
  | ⟨2, _⟩ => exact (Nat.zero_add _).trans (Nat.one_mul _)

theorem pay8_apply (v : Vec F S64x1024 .bf16) (r : Fin 64) (j : Fin 1024) : k0_pay8 v (ix3 r 1 j) = v (ix2 r j) := by
  unfold k0_pay8
  pointwise

theorem pay9_apply (v : Vec F S64x1024 .bf16) (r : Fin 64) (j : Fin 1024) : k0_pay9 v (ix3 r 0 j) = v (ix2 r j) := by
  unfold k0_pay9
  pointwise

theorem pay21_apply (T B : Vec F S1x2x1024 .bf16) (r : Fin 16) (j : Fin 1024) :
    k0_pay21 T B (ix2 r j) = if r.val % 2 = 0 then B (ix3 0 0 j) else T (ix3 0 1 j) := by
  unfold k0_pay21
  pointwise
  simp only [dite_eq_ite, ite_self]

theorem pay14_apply (v w : FVec F S32x1024 .bf16) (r : Fin 32) (j : Fin 1024) : k0_pay14 v w (ix3 r 1 j) = v (ix2 r j) := by
  unfold k0_pay14
  pointwise

theorem pay15_apply (v w : FVec F S32x1024 .bf16) (r : Fin 32) (j : Fin 1024) : k0_pay15 v w (ix3 r 1 j) = v (ix2 r j) := by
  unfold k0_pay15
  pointwise

theorem pay16_apply (v w : FVec F S32x1024 .bf16) (r : Fin 32) (j : Fin 1024) : k0_pay16 v w (ix3 r 0 j) = v (ix2 r j) := by
  unfold k0_pay16
  pointwise

theorem pay17_apply (v w : FVec F S32x1024 .bf16) (r : Fin 32) (j : Fin 1024) : k0_pay17 v w (ix3 r 0 j) = v (ix2 r j) := by
  unfold k0_pay17
  pointwise

/-- What the tables of scales hold: row `w` in the high halves of one, -/
theorem sTop_apply (a : Memref sig .tc .vmem S64x2x1024 .bf16) (a5 : Memref sig .tc .vmem S64x1024 .bf16) (h5 : a5.IsWhole)
    (x2 : Vec F S64x1024 .bf16) (w : BitVec 32) (h : w.toNat < 64) (j : Fin 1024) :
    ldT a (sTop a5 h5 x2) w h (ix3 0 1 j) = x2 (ix2 ⟨w.toNat, h⟩ j) := by
  rw [ldT_apply]
  unfold sTop
  rw [View.read_writes_full, rdS_eq, pay8_apply]

/-- and in the low halves of the other. -/
theorem sBot_apply (a : Memref sig .tc .vmem S64x2x1024 .bf16) (a5 : Memref sig .tc .vmem S64x1024 .bf16) (h5 : a5.IsWhole)
    (x2 : Vec F S64x1024 .bf16) (w : BitVec 32) (h : w.toNat < 64) (j : Fin 1024) :
    ldT a (sBot a5 h5 x2) w h (ix3 0 0 j) = x2 (ix2 ⟨w.toNat, h⟩ j) := by
  rw [ldT_apply]
  unfold sBot
  rw [View.read_writes_full, rdS_eq, pay9_apply]

/-- The zero points by row: the low nibbles of the 32 packed rows, then the high. -/
def zrow (z : Vec F S32x1024 .i8) (r : Fin 64) (j : Fin 1024) : F .bf16 :=
  if h : r.val < 32 then k0_pay10 z (ix2 ⟨r.val, h⟩ j) else k0_pay11 z (ix2 ⟨r.val - 32, by omega⟩ j)

/-- A table stored in two halves, read at a row of the first half, -/
theorem halves_lo (a : Memref sig .tc .vmem S64x2x1024 .bf16) (f : a.view.ty.Contents (Elt F)) (lo hi : Vec F S32x2x1024 .bf16)
    (r : Fin 64) (h : r.val < 32) (p : Fin 2) (j : Fin 1024) :
    a.view.read (Elt F) (a.view.writes (Elt F) f
      [⟨Rect.unit (s := S64x2x1024) ![32, 0, 0] S32x2x1024.size inb_S64x2x1024_S32x2x1024_32_0_0, hi⟩,
       ⟨Rect.unit (s := S64x2x1024) ![0, 0, 0] S32x2x1024.size inb_S64x2x1024_S32x2x1024_0_0_0, lo⟩]) (ix3 r p j)
      = lo (ix3 ⟨r.val, h⟩ p j) := by
  have hx : ∀ b : Fin 3, ((ix3 r p j : S64x2x1024.Idx) b).val = (![0, 0, 0] : Fin 3 → Nat) b + ((ix3 ⟨r.val, h⟩ p j : S32x2x1024.Idx) b).val := fun b => by
    match b with
    | ⟨0, _⟩ => exact (Nat.zero_add _).symm
    | ⟨1, _⟩ => exact (Nat.zero_add _).symm
    | ⟨2, _⟩ => exact (Nat.zero_add _).symm
  exact (View.read_writes_cons_unit_of_not_mem a.view f (off := ![32, 0, 0]) (off' := ![32, 0, 0]) (size := S32x2x1024.size)
      inb_S64x2x1024_S32x2x1024_32_0_0 hi _ (ix3 r p j) rfl (0 : Fin 3) (Or.inl h)).trans
    (View.read_writes_cons_unit_of_mem a.view f (off := ![0, 0, 0]) (off' := ![0, 0, 0]) (size := S32x2x1024.size)
      inb_S64x2x1024_S32x2x1024_0_0_0 lo [] (ix3 r p j) (ix3 ⟨r.val, h⟩ p j : S32x2x1024.Idx) rfl hx)

/-- and of the second. -/
theorem halves_hi (a : Memref sig .tc .vmem S64x2x1024 .bf16) (f : a.view.ty.Contents (Elt F)) (lo hi : Vec F S32x2x1024 .bf16)
    (r : Fin 64) (h : ¬ r.val < 32) (p : Fin 2) (j : Fin 1024) :
    a.view.read (Elt F) (a.view.writes (Elt F) f
      [⟨Rect.unit (s := S64x2x1024) ![32, 0, 0] S32x2x1024.size inb_S64x2x1024_S32x2x1024_32_0_0, hi⟩,
       ⟨Rect.unit (s := S64x2x1024) ![0, 0, 0] S32x2x1024.size inb_S64x2x1024_S32x2x1024_0_0_0, lo⟩]) (ix3 r p j)
      = hi (ix3 ⟨r.val - 32, by omega⟩ p j) := by
  have hx : ∀ b : Fin 3, ((ix3 r p j : S64x2x1024.Idx) b).val
      = (![32, 0, 0] : Fin 3 → Nat) b + ((ix3 ⟨r.val - 32, by omega⟩ p j : S32x2x1024.Idx) b).val := fun b => by
    match b with
    | ⟨0, _⟩ => show r.val = 32 + (r.val - 32); omega
    | ⟨1, _⟩ => exact (Nat.zero_add _).symm
    | ⟨2, _⟩ => exact (Nat.zero_add _).symm
  exact View.read_writes_cons_unit_of_mem a.view f (off := ![32, 0, 0]) (off' := ![32, 0, 0]) (size := S32x2x1024.size)
    inb_S64x2x1024_S32x2x1024_32_0_0 hi _ (ix3 r p j) (ix3 ⟨r.val - 32, by omega⟩ p j : S32x2x1024.Idx) rfl hx

theorem zTop_apply (a : Memref sig .tc .vmem S64x2x1024 .bf16) (a6 : Memref sig .tc .vmem S32x1024 .i8) (h6 : a6.IsWhole)
    (x3 : Vec F S32x1024 .i8) (w : BitVec 32) (h : w.toNat < 64) (j : Fin 1024) :
    ldT a (zTop a6 h6 x3) w h (ix3 0 1 j) = zrow x3 ⟨w.toNat, h⟩ j := by
  rw [ldT_apply]
  unfold zTop zrow
  rw [rdZ_eq]
  split
  · next h' => rw [halves_lo _ _ _ _ _ h', pay14_apply]
  · next h' => rw [halves_hi _ _ _ _ _ h', pay15_apply]

theorem zBot_apply (a : Memref sig .tc .vmem S64x2x1024 .bf16) (a6 : Memref sig .tc .vmem S32x1024 .i8) (h6 : a6.IsWhole)
    (x3 : Vec F S32x1024 .i8) (w : BitVec 32) (h : w.toNat < 64) (j : Fin 1024) :
    ldT a (zBot a6 h6 x3) w h (ix3 0 0 j) = zrow x3 ⟨w.toNat, h⟩ j := by
  rw [ldT_apply]
  unfold zBot zrow
  rw [rdZ_eq]
  split
  · next h' => rw [halves_lo _ _ _ _ _ h', pay16_apply]
  · next h' => rw [halves_hi _ _ _ _ _ h', pay17_apply]

/-- The tile of scales: on an even row the row `lo` names, on an odd row the one `hi` names. -/
theorem tileS_apply (top bot : Memref sig .tc .vmem S64x2x1024 .bf16) (a5 : Memref sig .tc .vmem S64x1024 .bf16) (h5 : a5.IsWhole)
    (x2 : Vec F S64x1024 .bf16) (lo hi : BitVec 32) (hlo : lo.toNat < 64) (hhi : hi.toNat < 64) (r : Fin 16) (j : Fin 1024) :
    tile top bot (sTop a5 h5 x2) (sBot a5 h5 x2) lo hi hlo hhi (ix2 r j)
      = if r.val % 2 = 0 then x2 (ix2 ⟨lo.toNat, hlo⟩ j) else x2 (ix2 ⟨hi.toNat, hhi⟩ j) := by
  unfold tile
  rw [pay21_apply, sTop_apply, sBot_apply]

/-- The tile of zero points. -/
theorem tileZ_apply (top bot : Memref sig .tc .vmem S64x2x1024 .bf16) (a6 : Memref sig .tc .vmem S32x1024 .i8) (h6 : a6.IsWhole)
    (x3 : Vec F S32x1024 .i8) (lo hi : BitVec 32) (hlo : lo.toNat < 64) (hhi : hi.toNat < 64) (r : Fin 16) (j : Fin 1024) :
    tile top bot (zTop a6 h6 x3) (zBot a6 h6 x3) lo hi hlo hhi (ix2 r j)
      = if r.val % 2 = 0 then zrow x3 ⟨lo.toNat, hlo⟩ j else zrow x3 ⟨hi.toNat, hhi⟩ j := by
  unfold tile
  rw [pay21_apply, zTop_apply, zBot_apply]

/-! ## The codes -/

/-- The low and the high nibble of a byte, in the halves of a word. -/
theorem nibble_halves : ∀ b : BitVec 8, ∀ p : Fin 2,
    (((b.setWidth 32 &&& 15#32) ||| ((b.setWidth 32 >>> 4) <<< 16)).extractLsb' (16 * p.val) 16).toInt
      = (if p.val = 0 then b.toNat % 16 else b.toNat / 16 : Nat) := by
  decide +kernel

/-! ## The weights of one step -/

/-- The sixteen pieces of a step's weights, by number. -/
def pieces (qa : FVec F S128x1024 .bf16) (za sa : FVec F S16x1024 .bf16) (qb : FVec F S128x1024 .bf16)
    (zb sb : FVec F S16x1024 .bf16) (hs : ∀ n : Fin 16, Shape.Slices S128x1024 ![16 * (n.val % 8), 0] S16x1024) (n : Fin 16) :
    FVec F S16x1024 .bf16 :=
  piece (extractStridedSlice S16x1024 ![16 * (n.val % 8), 0] (if n.val < 8 then qa else qb) (hs n))
    (if n.val < 8 then za else zb) (if n.val < 8 then sa else sb)

theorem concats (f : Fin 16 → FVec F S16x1024 .bf16) :
    Shape.Concatenates ((List.ofFn fun n : Fin 16 => (⟨S16x1024, f n⟩ : (s : Shape) × (s.Idx → F .bf16))).map (·.1)) S256x1024 0 := by
  rw [List.map_ofFn]
  exact concatenates_S16x1024_S16x1024_S16x1024_S16x1024_S16x1024_S16x1024_S16x1024_S16x1024_S16x1024_S16x1024_S16x1024_S16x1024_S16x1024_S16x1024_S16x1024_S16x1024_S256x1024_d0

/-- A step's weights at a row: group `r / 128` of the two, row `r % 128` of its codes, row `r % 16` of its tiles. -/
theorem weights_apply (qa : FVec F S128x1024 .bf16) (za sa : FVec F S16x1024 .bf16) (qb : FVec F S128x1024 .bf16)
    (zb sb : FVec F S16x1024 .bf16) (r : Fin 256) (j : Fin 1024) :
    weights qa za sa qb zb sb (ix2 r j)
      = if r.val < 128 then
          FloatOps.mulf (FloatOps.subf (qa (ix2 ⟨r.val % 128, by omega⟩ j)) (za (ix2 ⟨r.val % 16, by omega⟩ j))) (sa (ix2 ⟨r.val % 16, by omega⟩ j))
        else
          FloatOps.mulf (FloatOps.subf (qb (ix2 ⟨r.val % 128, by omega⟩ j)) (zb (ix2 ⟨r.val % 16, by omega⟩ j))) (sb (ix2 ⟨r.val % 16, by omega⟩ j)) := by
  have hs : ∀ n : Fin 16, Shape.Slices S128x1024 ![16 * (n.val % 8), 0] S16x1024 := by decide +kernel
  have e : weights qa za sa qb zb sb = concatenate S256x1024 0 (List.ofFn fun n : Fin 16 =>
      (⟨S16x1024, pieces qa za sa qb zb sb hs n⟩ : (s : Shape) × (s.Idx → F .bf16))) (concats _) := by
    sl_kernel_rfl
  refine (congrFun e _).trans ((concatenate_ofFn_apply 0 (pieces qa za sa qb zb sb hs) (concats _) rfl 16 rfl (ix2 r j)
    ⟨r.val / 16, by omega⟩ rfl (ix2 ⟨r.val % 16, by omega⟩ j : S16x1024.Idx) rfl
    (fun b hb => by match b with
      | ⟨0, _⟩ => exact absurd rfl hb
      | ⟨1, _⟩ => rfl)).trans ?_)
  have hq : ∀ q : FVec F S128x1024 .bf16, extractStridedSlice S16x1024 ![16 * (r.val / 16 % 8), 0] q (hs ⟨r.val / 16, by omega⟩)
      (ix2 ⟨r.val % 16, by omega⟩ j) = q (ix2 ⟨r.val % 128, by omega⟩ j) := fun q =>
    congrArg q (funext fun b => Fin.ext (by
      match b with
      | ⟨0, _⟩ => show 16 * (r.val / 16 % 8) + r.val % 16 = r.val % 128; omega
      | ⟨1, _⟩ => exact Nat.zero_add _))
  have hd : (r.val / 16 < 8) ↔ r.val < 128 := by omega
  by_cases h : r.val < 128
  · simp only [if_pos h, pieces, if_pos (hd.2 h), piece, mulf, subf, hq]
  · simp only [if_neg h, pieces, if_neg (fun h' => h (hd.1 h')), piece, mulf, subf, hq]

end Cert.KernelIdeal.Model

end
-- ==== Proof.Spec.lean ====
/- The linear layer's mathematics at one element, and the two orders its sum is taken in (hand-written, untrusted). -/
module

public import Idealize.ShloMosaic.Lib.Pointwise

@[expose] public section

noncomputable section

namespace Cert.Proof.Spec

open Idealize.ShloMosaic

/-- The low (`p = 0`) or the high nibble of a byte, as a number. -/
def nib (b : BitVec 8) (p : Nat) : EReal := (((if p = 0 then b.toNat % 16 else b.toNat / 16 : Nat) : ℝ) : EReal)

/-- Zero points: row `r` of the 64 is the low nibbles of packed row `r`, then from row 32 the high nibbles of row `r - 32`. -/
def zero {N : Nat} (z : (⟨2, ![32, N]⟩ : Shape).Idx → BitVec 8) (r : Fin 64) (n : Fin N) : EReal :=
  if h : r.val < 32 then nib (z (ix2 ⟨r.val, h⟩ n)) 0 else nib (z (ix2 ⟨r.val - 32, by omega⟩ n)) 1

/-- The dequantized weight of input `j`, output `n`: input `j` is in group `j / 128`; byte `j / 2` of the codes holds it, in
    the nibble `j % 2`; the inputs of each parity take the zero points and the scales of their own row, `lo` or `hi` of the
    group. -/
def weight {N : Nat} (q : (⟨2, ![4096, N]⟩ : Shape).Idx → BitVec 8) (s : (⟨2, ![64, N]⟩ : Shape).Idx → EReal)
    (z : (⟨2, ![32, N]⟩ : Shape).Idx → BitVec 8) (lo hi : Fin 64 → Fin 64) (j : Fin 8192) (n : Fin N) : EReal :=
  let r := if j.val % 2 = 0 then lo ⟨j.val / 128, by omega⟩ else hi ⟨j.val / 128, by omega⟩
  (nib (q (ix2 ⟨j.val / 2, by omega⟩ n)) (j.val % 2) - zero z r n) * s (ix2 r n)

/-- The weight of an even input of group `g`, -/
theorem weight_even {N : Nat} (q : (⟨2, ![4096, N]⟩ : Shape).Idx → BitVec 8) (s : (⟨2, ![64, N]⟩ : Shape).Idx → EReal)
    (z : (⟨2, ![32, N]⟩ : Shape).Idx → BitVec 8) (lo hi : Fin 64 → Fin 64) (g k : Fin 64) (n : Fin N) :
    weight q s z lo hi ⟨128 * g.val + 2 * k.val, by omega⟩ n
      = (nib (q (ix2 ⟨g.val * 64 + k.val, by omega⟩ n)) 0 - zero z (lo g) n) * s (ix2 (lo g) n) := by
  have hp : (128 * g.val + 2 * k.val) % 2 = 0 := by omega
  have hg : (⟨(128 * g.val + 2 * k.val) / 128, by omega⟩ : Fin 64) = g :=
    Fin.ext (by show (128 * g.val + 2 * k.val) / 128 = g.val; omega)
  have hq : (⟨(128 * g.val + 2 * k.val) / 2, by omega⟩ : Fin 4096) = ⟨g.val * 64 + k.val, by omega⟩ :=
    Fin.ext (by show (128 * g.val + 2 * k.val) / 2 = g.val * 64 + k.val; omega)
  simp only [weight, hp, hg, hq]
  rfl

/-- and that of an odd one. -/
theorem weight_odd {N : Nat} (q : (⟨2, ![4096, N]⟩ : Shape).Idx → BitVec 8) (s : (⟨2, ![64, N]⟩ : Shape).Idx → EReal)
    (z : (⟨2, ![32, N]⟩ : Shape).Idx → BitVec 8) (lo hi : Fin 64 → Fin 64) (g k : Fin 64) (n : Fin N) :
    weight q s z lo hi ⟨128 * g.val + 2 * k.val + 1, by omega⟩ n
      = (nib (q (ix2 ⟨g.val * 64 + k.val, by omega⟩ n)) 1 - zero z (hi g) n) * s (ix2 (hi g) n) := by
  have hp : (128 * g.val + 2 * k.val + 1) % 2 = 1 := by omega
  have hg : (⟨(128 * g.val + 2 * k.val + 1) / 128, by omega⟩ : Fin 64) = g :=
    Fin.ext (by show (128 * g.val + 2 * k.val + 1) / 128 = g.val; omega)
  have hq : (⟨(128 * g.val + 2 * k.val + 1) / 2, by omega⟩ : Fin 4096) = ⟨g.val * 64 + k.val, by omega⟩ :=
    Fin.ext (by show (128 * g.val + 2 * k.val + 1) / 2 = g.val * 64 + k.val; omega)
  simp only [weight, hp, hg, hq]
  rfl

/-- The column an index word names, clamped into the 8192 columns as a gather clamps it. -/
def column (w : BitVec 32) : Fin 8192 := ⟨min w.toInt.toNat 8191, by omega⟩

/-- A function of the 8192 inputs, zero past them. -/
def ext (f : Fin 8192 → EReal) (j : Nat) : EReal := if h : j < 8192 then f ⟨j, h⟩ else 0

theorem ext_of_lt (f : Fin 8192 → EReal) (j : Nat) (h : j < 8192) : ext f j = f ⟨j, h⟩ := dif_pos h

/-- A sum over pairs, evens then odds. -/
theorem sum_evens_odds (f : Nat → EReal) (K : Nat) :
    ∑ j ∈ Finset.range (2 * K), f j = ∑ k ∈ Finset.range K, f (2 * k) + ∑ k ∈ Finset.range K, f (2 * k + 1) := by
  induction K with
  | zero => simp
  | succ K ih =>
    rw [Nat.mul_succ, Finset.sum_range_succ, Finset.sum_range_succ, ih, Finset.sum_range_succ, Finset.sum_range_succ]
    ac_rfl

/-- A sum over blocks. -/
theorem sum_blocks (f : Nat → EReal) (B G : Nat) :
    ∑ j ∈ Finset.range (B * G), f j = ∑ g ∈ Finset.range G, ∑ k ∈ Finset.range B, f (B * g + k) := by
  induction G with
  | zero => simp
  | succ G ih => rw [Nat.mul_succ, Finset.sum_range_add, ih, Finset.sum_range_succ]

/-- The sum over all inputs is the sum over the even inputs of every group plus that over the odd. -/
theorem sum_groups (f : Fin 8192 → EReal) (n : Nat) (hn : n = 2 * (64 * 64)) :
    ∑ j ∈ Finset.range n, ext f j
      = (∑ g : Fin 64, ∑ k : Fin 64, f ⟨128 * g.val + 2 * k.val, by omega⟩)
        + ∑ g : Fin 64, ∑ k : Fin 64, f ⟨128 * g.val + 2 * k.val + 1, by omega⟩ := by
  rw [hn, sum_evens_odds, sum_blocks, sum_blocks, Finset.sum_range, Finset.sum_range]
  refine congrArg₂ (· + ·) (Finset.sum_congr rfl fun g _ => ?_) (Finset.sum_congr rfl fun g _ => ?_)
  · rw [Finset.sum_range]
    refine Finset.sum_congr rfl fun k _ => ?_
    rw [show 2 * (64 * g.val + k.val) = 128 * g.val + 2 * k.val by omega]
    exact ext_of_lt f _ _
  · rw [Finset.sum_range]
    refine Finset.sum_congr rfl fun k _ => ?_
    rw [show 2 * (64 * g.val + k.val) + 1 = 128 * g.val + 2 * k.val + 1 by omega]
    exact ext_of_lt f _ _

end Cert.Proof.Spec

end
-- ==== Proof.Steps.lean ====
/- The accumulator after the 32 steps, at one element of a block, as a sum over the 8192 inputs (hand-written, untrusted). -/
module

public import proofs.«01_k».proof.Proof.Tiles
public import proofs.«01_k».proof.Proof.Spec

@[expose] public section

set_option maxRecDepth 16384

noncomputable section

namespace Cert.KernelIdeal.Model

open Idealize.ShloMosaic Idealize.ShloMosaic.TcCoe Idealize.ShloMosaic.Tactic
open Cert.KernelIdeal Cert.KernelIdeal.Gen Cert.Proof.Spec

/-! ## The integers -/

theorem lo_val : ∀ b : BitVec 8, (b &&& 15#8).toNat = b.toNat % 16 := by decide +kernel
theorem hi_val : ∀ b : BitVec 8, (b.setWidth 32 >>> 4).toNat = b.toNat / 16 := by decide +kernel

theorem pay10_apply (z : Vec Ideal S32x1024 .i8) (r : Fin 32) (j : Fin 1024) : k0_pay10 z (ix2 r j) = nib (z (ix2 r j)) 0 := by
  show (((z (ix2 r j) &&& 15#8).toNat : ℝ) : EReal) = _
  rw [lo_val]; rfl

theorem pay11_apply (z : Vec Ideal S32x1024 .i8) (r : Fin 32) (j : Fin 1024) : k0_pay11 z (ix2 r j) = nib (z (ix2 r j)) 1 := by
  show (((IntOp.shrui .vector ((z (ix2 r j)).setWidth 32) 4#32).toNat : ℝ) : EReal) = _
  rw [show IntOp.shrui .vector ((z (ix2 r j)).setWidth 32) 4#32 = (z (ix2 r j)).setWidth 32 >>> 4 from rfl, hi_val]; rfl

theorem zrow_apply (z : Vec Ideal S32x1024 .i8) (r : Fin 64) (j : Fin 1024) : zrow z r j = zero z r j := by
  unfold zrow zero
  split
  · rw [pay10_apply]
  · rw [pay11_apply]

theorem pay22_apply (q : Vec Ideal S64x1024 .i8) (i : Fin 128) (j : Fin 1024) :
    k0_pay22 q (ix2 i j) = nib (q (ix2 ⟨i.val / 2, by omega⟩ j)) (i.val % 2) := by
  unfold k0_pay22
  show (((bitcast S128x1024 16 _ bitcasts_S64x1024_w32_S128x1024_w16 (ix2 i j)).toInt : ℝ) : EReal) = _
  rw [bitcast_32_16]
  have hr : S128x1024.row (ix2 i j) = i.val := rfl
  have hi : ∀ (h : ∀ a : Fin S64x1024.rank, a.val + 2 = S64x1024.rank → S128x1024.row (ix2 i j) / 2 < S64x1024.size a),
      bitcasts_S64x1024_w32_S128x1024_w16.srcIdx (ix2 i j) (S128x1024.row (ix2 i j) / 2) h = (ix2 ⟨i.val / 2, by omega⟩ j : S64x1024.Idx) := fun h => by
    funext a
    match a with
    | ⟨0, _⟩ => rfl
    | ⟨1, _⟩ => rfl
  rw [hi, hr]
  generalize (⟨i.val / 2, _⟩ : Fin 64) = i'
  have hp := nibble_halves (q (ix2 i' j)) ⟨i.val % 2, by omega⟩
  refine (congrArg (fun t : Int => ((t : ℝ) : EReal)) hp).trans ?_
  unfold nib
  simp only [Int.cast_natCast]

/-! ## One step -/

theorem step_apply (a : FVec Ideal S48x1024 .f32) (x : Vec Ideal S48x256 .bf16) (w : FVec Ideal S256x1024 .bf16) (i : Fin 48) (j : Fin 1024) :
    step a x w (ix2 i j) = a (ix2 i j) + ∑ k : Fin 256, (x (ix2 i k) : EReal) * w (ix2 k j) := by
  unfold step
  pointwise

/-! ## All the steps -/

section
variable (q : Vec Ideal S4096x1024 .i8) (s : Vec Ideal S64x1024 .bf16) (z : Vec Ideal S32x1024 .i8) (lo hi : Fin 64 → Fin 64)

/-- One weight of one group: row `r` of the 128 of group `g`, from the group's codes and the tiles of its zero points and
    scales, is the weight of input `128 g + r`. -/
theorem piece_apply (Q : FVec Ideal S128x1024 .bf16) (Z S : FVec Ideal S16x1024 .bf16) (g : Fin 64) (j : Fin 1024)
    (hQ : ∀ i : Fin 128, Q (ix2 i j) = nib (q (ix2 ⟨64 * g.val + i.val / 2, by omega⟩ j)) (i.val % 2))
    (hZ : ∀ i : Fin 16, Z (ix2 i j) = if i.val % 2 = 0 then zero z (lo g) j else zero z (hi g) j)
    (hS : ∀ i : Fin 16, S (ix2 i j) = if i.val % 2 = 0 then s (ix2 (lo g) j) else s (ix2 (hi g) j))
    (r : Nat) (J : Fin 8192) (hJ : J.val = 128 * g.val + r % 128) :
    FloatOps.mulf (FloatOps.subf (Q (ix2 ⟨r % 128, by omega⟩ j)) (Z (ix2 ⟨r % 16, by omega⟩ j))) (S (ix2 ⟨r % 16, by omega⟩ j))
      = weight q s z lo hi J j := by
  have e : ∀ a b c : EReal, (FloatOps.mulf (F := Ideal) (φ := .bf16) (FloatOps.subf (F := Ideal) (φ := .bf16) a b) c) = (a - b) * c := fun _ _ _ => rfl
  rw [hQ, hZ, hS]
  refine (e _ _ _).trans ?_
  have h1 : J.val % 2 = r % 128 % 2 := by omega
  have h2 : r % 16 % 2 = r % 128 % 2 := by omega
  have h3 : (⟨J.val / 2, by omega⟩ : Fin 4096) = ⟨64 * g.val + r % 128 / 2, by omega⟩ := Fin.ext (by show J.val / 2 = 64 * g.val + r % 128 / 2; omega)
  have h4 : (⟨J.val / 128, by omega⟩ : Fin 64) = g := Fin.ext (by show J.val / 128 = _; omega)
  simp only [weight, h1, h2, h3, h4]
  by_cases h : r % 128 % 2 = 0
  · simp only [if_pos h]
  · simp only [if_neg h]

/-- The accumulator after `k` steps is the sum over the first `256 k` inputs. -/
theorem acc_apply (x : Vec Ideal S48x8192 .bf16) (X : Fin 32 → Vec Ideal S48x256 .bf16) (Q : Fin 64 → FVec Ideal S128x1024 .bf16)
    (Z S : Fin 64 → FVec Ideal S16x1024 .bf16) (i : Fin 48) (j : Fin 1024)
    (hX : ∀ (k : Fin 32) (r : Fin 256), X k (ix2 i r) = x (ix2 i ⟨256 * k.val + r.val, by omega⟩))
    (hQ : ∀ (g : Fin 64) (i : Fin 128), Q g (ix2 i j) = nib (q (ix2 ⟨64 * g.val + i.val / 2, by omega⟩ j)) (i.val % 2))
    (hZ : ∀ (g : Fin 64) (i : Fin 16), Z g (ix2 i j) = if i.val % 2 = 0 then zero z (lo g) j else zero z (hi g) j)
    (hS : ∀ (g : Fin 64) (i : Fin 16), S g (ix2 i j) = if i.val % 2 = 0 then s (ix2 (lo g) j) else s (ix2 (hi g) j))
    (k : Nat) (hk : k ≤ 32) :
    acc X Q Z S k hk (ix2 i j)
      = ∑ n ∈ Finset.range (256 * k), ext (fun J => (x (ix2 i J) : EReal) * weight q s z lo hi J j) n := by
  induction k with
  | zero =>
    rw [Nat.mul_zero, Finset.sum_range_zero]
    exact Ideal.ofBits_zero_f32
  | succ k ih =>
    rw [Nat.mul_succ, Finset.sum_range_add, ← ih (Nat.le_of_succ_le hk)]
    refine (step_apply (acc X Q Z S k (Nat.le_of_succ_le hk)) (X ⟨k, hk⟩) _ i j).trans (congrArg _ ?_)
    rw [Finset.sum_range]
    refine Finset.sum_congr rfl fun r _ => ?_
    refine Eq.trans ?_ (ext_of_lt _ (256 * k + r.val) (by omega)).symm
    rw [weights_apply, hX]
    refine congrArg _ ?_
    by_cases h : r.val < 128
    · rw [if_pos h]
      exact piece_apply q s z lo hi _ _ _ ⟨2 * k, by omega⟩ j (hQ _) (hZ _) (hS _) r.val _ (by show 256 * k + r.val = 128 * (2 * k) + _; omega)
    · rw [if_neg h]
      exact piece_apply q s z lo hi _ _ _ ⟨2 * k + 1, by omega⟩ j (hQ _) (hZ _) (hS _) r.val _ (by show 256 * k + r.val = 128 * (2 * k + 1) + _; omega)

end

end Cert.KernelIdeal.Model

end
-- ==== Proof.Blocks.lean ====
/- From the blocks to the array: what each point leaves in its output block, as columns of one array over the whole
   arguments; so the result array ends holding that array (hand-written, untrusted). -/
module

public import proofs.«01_k».proof.Proof.Steps
public import Idealize.ShloMosaic.Lib.Pipeline.Value
public import Idealize.ShloMosaic.Lib.Pipeline.ValueKit

@[expose] public section

set_option maxRecDepth 16384

noncomputable section

namespace Cert.KernelIdeal.Model

open Idealize.ShloMosaic Idealize.ShloMosaic.TcCoe Idealize.ShloMosaic.Tactic
open Cert.KernelIdeal Cert.KernelIdeal.Gen Cert.Proof.Spec

/-! ## One block, over the blocks it reads -/

/-- The linear layer at row `i`, output `n`. -/
def layer {N : Nat} (x : (⟨2, ![48, 8192]⟩ : Shape).Idx → EReal) (q : (⟨2, ![4096, N]⟩ : Shape).Idx → BitVec 8)
    (s : (⟨2, ![64, N]⟩ : Shape).Idx → EReal) (z : (⟨2, ![32, N]⟩ : Shape).Idx → BitVec 8) (lo hi : Fin 64 → Fin 64)
    (i : Fin 48) (n : Fin N) : EReal :=
  ∑ j ∈ Finset.range 8192, ext (fun J => x (ix2 i J) * weight q s z lo hi J n) j

/-- A block of the layer is the layer at the block's columns. -/
theorem layer_block {N M : Nat} (x x' : (⟨2, ![48, 8192]⟩ : Shape).Idx → EReal) (q : (⟨2, ![4096, N]⟩ : Shape).Idx → BitVec 8)
    (q' : (⟨2, ![4096, M]⟩ : Shape).Idx → BitVec 8) (s : (⟨2, ![64, N]⟩ : Shape).Idx → EReal) (s' : (⟨2, ![64, M]⟩ : Shape).Idx → EReal)
    (z : (⟨2, ![32, N]⟩ : Shape).Idx → BitVec 8) (z' : (⟨2, ![32, M]⟩ : Shape).Idx → BitVec 8) (lo hi : Fin 64 → Fin 64)
    (i : Fin 48) (n : Fin N) (n' : Fin M) (hx : ∀ J, x (ix2 i J) = x' (ix2 i J)) (hq : ∀ r, q (ix2 r n) = q' (ix2 r n'))
    (hs : ∀ r, s (ix2 r n) = s' (ix2 r n')) (hz : ∀ r, z (ix2 r n) = z' (ix2 r n')) :
    layer x q s z lo hi i n = layer x' q' s' z' lo hi i n' := by
  unfold layer
  refine Finset.sum_congr rfl fun j _ => congrFun (congrArg ext (funext fun J => ?_)) j
  rw [hx]
  refine congrArg _ ?_
  simp only [weight, zero, hq, hs, hz]

theorem read_full (P : Vec Ideal S48x1024 .bf16) :
    VO0_4.read (Elt Ideal) (VO0_4.writes (Elt Ideal) VO0_4.junk
      [⟨Rect.unit (s := S48x1024) ![0, 0] S48x1024.size inb_S48x1024_S48x1024_0_0, P⟩]) = P := by
  rw [View.read_writes_full]

theorem codes_apply (a : Memref sig .tc .vmem S4096x1024 .i8) (ha : a.IsWhole) (q : Vec Ideal S4096x1024 .i8) (g : Fin 64)
    (i : Fin 128) (j : Fin 1024) :
    k0_pay22 (ldQ a ha q g) (ix2 i j) = nib (q (ix2 ⟨64 * g.val + i.val / 2, by omega⟩ j)) (i.val % 2) := by
  rw [pay22_apply, ldQ_apply]

theorem zeros_apply (top bot : Memref sig .tc .vmem S64x2x1024 .bf16) (a6 : Memref sig .tc .vmem S32x1024 .i8) (h6 : a6.IsWhole)
    (z : Vec Ideal S32x1024 .i8) (lo hi : BitVec 32) (hlo : lo.toNat < 64) (hhi : hi.toNat < 64) (l h : Fin 64)
    (el : lo.toNat = l.val) (eh : hi.toNat = h.val) (r : Fin 16) (j : Fin 1024) :
    tile top bot (zTop a6 h6 z) (zBot a6 h6 z) lo hi hlo hhi (ix2 r j) = if r.val % 2 = 0 then zero z l j else zero z h j := by
  rw [tileZ_apply, zrow_apply, zrow_apply, show (⟨lo.toNat, hlo⟩ : Fin 64) = l from Fin.ext el,
    show (⟨hi.toNat, hhi⟩ : Fin 64) = h from Fin.ext eh]

theorem scales_apply (top bot : Memref sig .tc .vmem S64x2x1024 .bf16) (a5 : Memref sig .tc .vmem S64x1024 .bf16) (h5 : a5.IsWhole)
    (s : Vec Ideal S64x1024 .bf16) (lo hi : BitVec 32) (hlo : lo.toNat < 64) (hhi : hi.toNat < 64) (l h : Fin 64)
    (el : lo.toNat = l.val) (eh : hi.toNat = h.val) (r : Fin 16) (j : Fin 1024) :
    tile top bot (sTop a5 h5 s) (sBot a5 h5 s) lo hi hlo hhi (ix2 r j) = if r.val % 2 = 0 then s (ix2 l j) else s (ix2 h j) := by
  rw [tileS_apply, show (⟨lo.toNat, hlo⟩ : Fin 64) = l from Fin.ext el, show (⟨hi.toNat, hhi⟩ : Fin 64) = h from Fin.ext eh]

variable (m : (ℓ : Loc nD τ sig) → Buf (Elt Ideal) ℓ)

/-- What a point leaves in its output block, over the blocks of its inputs. -/
theorem outsAt_apply (hO : Ok m) (hH : Hyps m hO) (c : Dev nD) (t : Fin (cfgM m hO).N) (lo hi : Fin 64 → Fin 64)
    (hlo : ∀ g, ((tbl m 0 : S64.Idx → BitVec 32) (ix1 g)).toNat = (lo g).val)
    (hhi : ∀ g, ((tbl m 1 : S64.Idx → BitVec 32) (ix1 g)).toNat = (hi g).val) (i : Fin 48) (j : Fin 1024) :
    (outsAt0 m hO hH c t (ix2 i j) : EReal)
      = layer (iblk m hO c 0 t : S48x8192.Idx → EReal) (iblk m hO c 1 t : S4096x1024.Idx → BitVec 8)
          (iblk m hO c 2 t : S64x1024.Idx → EReal) (iblk m hO c 3 t : S32x1024.Idx → BitVec 8) lo hi i j := by
  have h0 : ∀ g, (word tbM0_0 c (tbl m 0) g).toNat = (lo g).val := fun g => (congrArg BitVec.toNat (word_lo c (tbl m 0) g)).trans (hlo g)
  have h1 : ∀ g, (word tbM0_1 c (tbl m 1) g).toNat = (hi g).val := fun g => (congrArg BitVec.toNat (word_hi c (tbl m 1) g)).trans (hhi g)
  have h0' : ∀ g, (word tbM0_0 c (tbl m 0) g).toNat < 64 := fun g => (h0 g) ▸ (lo g).isLt
  have h1' : ∀ g, (word tbM0_1 c (tbl m 1) g).toNat < 64 := fun g => (h1 g) ▸ (hi g).isLt
  refine (congrFun ((outsAt_eq m hO hH c t h0' h1').trans (read_full _)) (ix2 i j)).trans ?_
  exact acc_apply (iblk m hO c 1 t) (iblk m hO c 2 t) (iblk m hO c 3 t) lo hi (iblk m hO c 0 t) _ _ _ _ i j
    (fun k r => ldX_apply _ _ _ k i r) (fun g r => codes_apply _ _ _ g r j)
    (fun g r => zeros_apply _ _ _ _ _ _ _ (h0' g) (h1' g) _ _ (h0 g) (h1 g) r j)
    (fun g r => scales_apply _ _ _ _ _ _ _ (h0' g) (h1' g) _ _ (h0 g) (h1 g) r j) 32 (Nat.le_refl _)

/-! ## The blocks in their arrays -/

theorem idx0 : ∀ t : Fin grid0.N, cc0_transform_0 (grid0.coords t) = ![0, 0] := by decide +kernel
theorem idx1 : ∀ t : Fin grid0.N, cc0_transform_1 (grid0.coords t) = ![0, t.val] := by decide +kernel
theorem idx2 : ∀ t : Fin grid0.N, cc0_transform_2 (grid0.coords t) = ![0, t.val] := by decide +kernel
theorem idx3 : ∀ t : Fin grid0.N, cc0_transform_3 (grid0.coords t) = ![0, t.val] := by decide +kernel
theorem idx4 : ∀ t : Fin grid0.N, cc0_transform_4 (grid0.coords t) = ![0, t.val] := by decide +kernel

theorem lt_N (t : Fin grid0.N) : t.val < 29 := Nat.lt_of_lt_of_eq t.isLt N_0

/-- Column `j` of block `t`. -/
def col (t : Fin grid0.N) (j : Fin 1024) : Fin 29696 := ⟨t.val * 1024 + j.val, by have := lt_N t; omega⟩

theorem iblk0_apply (hO : Ok m) (c : Dev nD) (t : Fin grid0.N) (i : Fin 48) (j : Fin 8192) :
    (iblk m hO c 0 t : S48x8192.Idx → EReal) (ix2 i j) = (V m c main_v7 : S48x8192.Idx → EReal) (ix2 i j) := by
  unfold iblk
  generalize V m c = f
  refine congrArg (f main_v7 : S48x8192.Idx → EReal) (funext fun b => Fin.ext ?_)
  match b with
  | ⟨0, _⟩ => show cc0_transform_0 (grid0.coords t) 0 * 48 + 1 * i.val = i.val; rw [idx0]; show 0 * 48 + _ = _; omega
  | ⟨1, _⟩ => show cc0_transform_0 (grid0.coords t) 1 * 8192 + 1 * j.val = j.val; rw [idx0]; show 0 * 8192 + _ = _; omega

theorem iblk1_apply (hO : Ok m) (c : Dev nD) (t : Fin grid0.N) (r : Fin 4096) (j : Fin 1024) :
    (iblk m hO c 1 t : S4096x1024.Idx → BitVec 8) (ix2 r j) = (V m c main_arg1 : S4096x29696.Idx → BitVec 8) (ix2 r (col t j)) := by
  unfold iblk
  generalize V m c = f
  refine congrArg (f main_arg1 : S4096x29696.Idx → BitVec 8) (funext fun b => Fin.ext ?_)
  match b with
  | ⟨0, _⟩ => show cc0_transform_1 (grid0.coords t) 0 * 4096 + 1 * r.val = r.val; rw [idx1]; show 0 * 4096 + _ = _; omega
  | ⟨1, _⟩ => show cc0_transform_1 (grid0.coords t) 1 * 1024 + 1 * j.val = t.val * 1024 + j.val; rw [idx1]; show t.val * 1024 + _ = _; omega

theorem iblk2_apply (hO : Ok m) (c : Dev nD) (t : Fin grid0.N) (r : Fin 64) (j : Fin 1024) :
    (iblk m hO c 2 t : S64x1024.Idx → EReal) (ix2 r j) = (V m c main_arg2 : S64x29696.Idx → EReal) (ix2 r (col t j)) := by
  unfold iblk
  generalize V m c = f
  refine congrArg (f main_arg2 : S64x29696.Idx → EReal) (funext fun b => Fin.ext ?_)
  match b with
  | ⟨0, _⟩ => show cc0_transform_2 (grid0.coords t) 0 * 64 + 1 * r.val = r.val; rw [idx2]; show 0 * 64 + _ = _; omega
  | ⟨1, _⟩ => show cc0_transform_2 (grid0.coords t) 1 * 1024 + 1 * j.val = t.val * 1024 + j.val; rw [idx2]; show t.val * 1024 + _ = _; omega

theorem iblk3_apply (hO : Ok m) (c : Dev nD) (t : Fin grid0.N) (r : Fin 32) (j : Fin 1024) :
    (iblk m hO c 3 t : S32x1024.Idx → BitVec 8) (ix2 r j) = (V m c main_arg3 : S32x29696.Idx → BitVec 8) (ix2 r (col t j)) := by
  unfold iblk
  generalize V m c = f
  refine congrArg (f main_arg3 : S32x29696.Idx → BitVec 8) (funext fun b => Fin.ext ?_)
  match b with
  | ⟨0, _⟩ => show cc0_transform_3 (grid0.coords t) 0 * 32 + 1 * r.val = r.val; rw [idx3]; show 0 * 32 + _ = _; omega
  | ⟨1, _⟩ => show cc0_transform_3 (grid0.coords t) 1 * 1024 + 1 * j.val = t.val * 1024 + j.val; rw [idx3]; show t.val * 1024 + _ = _; omega

/-! ## The result array -/

/-- The layer over the whole arrays, index by index. -/
def layers (x : S48x8192.Idx → EReal) (q : S4096x29696.Idx → BitVec 8) (s : S64x29696.Idx → EReal) (z : S32x29696.Idx → BitVec 8)
    (lo hi : Fin 64 → Fin 64) (i : S48x29696.Idx) : EReal := layer x q s z lo hi (i 0) (i 1)

/-- A point's output block holds its columns of the layer over the whole arrays. -/
theorem outsAt_layers (hO : Ok m) (hH : Hyps m hO) (c : Dev nD) (t : Fin grid0.N) (lo hi : Fin 64 → Fin 64)
    (hlo : ∀ g, ((tbl m 0 : S64.Idx → BitVec 32) (ix1 g)).toNat = (lo g).val)
    (hhi : ∀ g, ((tbl m 1 : S64.Idx → BitVec 32) (ix1 g)).toNat = (hi g).val) (i : Fin 48) (j : Fin 1024) :
    (outsAt0 m hO hH c t (ix2 i j) : EReal)
      = layers (V m c main_v7) (V m c main_arg1) (V m c main_arg2) (V m c main_arg3) lo hi (ix2 i (col t j)) :=
  (outsAt_apply m hO hH c t lo hi hlo hhi i j).trans
    (layer_block _ _ _ _ _ _ _ _ lo hi i j (col t j) (fun J => iblk0_apply m hO c t i J) (fun r => iblk1_apply m hO c t r j)
      (fun r => iblk2_apply m hO c t r j) (fun r => iblk3_apply m hO c t r j))

theorem emb4 (hO : Ok m) (t : Fin (cfgM m hO).N) (i : Fin 48) (j : Fin 1024) :
    (((cfgM m hO).win 4).blk t).view.emb (ix2 i j : S48x1024.Idx) = (ix2 i (col t j) : S48x29696.Idx) := by
  refine funext fun b => Fin.ext ?_
  match b with
  | ⟨0, _⟩ => show cc0_transform_4 (grid0.coords t) 0 * 48 + 1 * i.val = i.val; rw [idx4]; show 0 * 48 + _ = _; omega
  | ⟨1, _⟩ => show cc0_transform_4 (grid0.coords t) 1 * 1024 + 1 * j.val = t.val * 1024 + j.val; rw [idx4]; show t.val * 1024 + _ = _; omega

end Cert.KernelIdeal.Model

end
-- ==== Proof.Array.lean ====
/- The idealized kernel's result array after the run, and the run read at it (hand-written, untrusted). -/
module

public import proofs.«01_k».proof.Proof.Blocks

@[expose] public section

set_option maxRecDepth 16384

noncomputable section

namespace Cert.KernelIdeal.Model

open Idealize.ShloMosaic Idealize.ShloMosaic.TcCoe Idealize.ShloMosaic.Tactic Idealize.SL.Sem
open Cert.KernelIdeal Cert.KernelIdeal.Gen Cert.Proof.Spec

variable (m : (ℓ : Loc nD τ sig) → Buf (Elt Ideal) ℓ) (ρ : Dev nD → PrngReg)

/-- What the result array ends holding: the layer over the arrays as the pipeline finds them. -/
def result (lo hi : Fin 64 → Fin 64) (c : Dev nD) : Buf (Elt Ideal) ((c : Thread nD τ).loc main_v10) :=
  layers (V m c main_v7) (V m c main_arg1) (V m c main_arg2) (V m c main_arg3) lo hi

/-- Every column is in the block of the point its thousand-and-twenty-four names. -/
theorem cover (hO : Ok m) (i : S48x29696.Idx) :
    ∃ t : Fin (cfgM m hO).N, ((cfgM m hO).win 4).flush t = true ∧ i ∈ (((cfgM m hO).win 4).blk t).view.set := by
  have hi : (i 1).val < 29696 := (i 1).isLt
  have hN : grid0.N = 29 := N_0
  let t : Fin grid0.N := ⟨(i 1).val / 1024, by omega⟩
  refine ⟨t, flush0_4 _ t, ?_⟩
  have e : (((cfgM m hO).win 4).blk t).view.emb (ix2 (i 0) ⟨(i 1).val % 1024, by omega⟩ : S48x1024.Idx) = i := by
    refine (emb4 m hO t _ _).trans (funext fun b => Fin.ext ?_)
    match b with
    | ⟨0, _⟩ => rfl
    | ⟨1, _⟩ => show (i 1).val / 1024 * 1024 + (i 1).val % 1024 = (i 1).val; omega
  rw [← e]
  exact View.emb_mem_set _ _

theorem outsAt_result (hO : Ok m) (hH : Hyps m hO) (lo hi : Fin 64 → Fin 64)
    (hlo : ∀ g, ((tbl m 0 : S64.Idx → BitVec 32) (ix1 g)).toNat = (lo g).val)
    (hhi : ∀ g, ((tbl m 1 : S64.Idx → BitVec 32) (ix1 g)).toNat = (hi g).val) (c : Dev nD) (t : Fin (cfgM m hO).N) (y : S48x1024.Idx) :
    (outsAt0 m hO hH c t y : EReal) = result m lo hi c ((((cfgM m hO).win 4).blk t).view.emb y) := by
  have e : y = (ix2 (y 0) (y 1) : S48x1024.Idx) := funext fun b => by
    match b with
    | ⟨0, _⟩ => rfl
    | ⟨1, _⟩ => rfl
  rw [e]
  exact (outsAt_layers m hO hH c t lo hi hlo hhi (y 0) (y 1)).trans (congrArg (result m lo hi c) (emb4 m hO t (y 0) (y 1))).symm

theorem final_o (hO : Ok m) (hH : Hyps m hO) (lo hi : Fin 64 → Fin 64)
    (hlo : ∀ g, ((tbl m 0 : S64.Idx → BitVec 32) (ix1 g)).toNat = (lo g).val)
    (hhi : ∀ g, ((tbl m 1 : S64.Idx → BitVec 32) (ix1 g)).toNat = (hi g).val) (c : Dev nD) :
    (dats m hO hH 0 c).arrAt 4 (cfgM m hO).N = result m lo hi c := by
  refine (dats m hO hH 0 c).arrAt_eq_of_cover 4 (result m lo hi c) (fun t _ => ?_) (cover m hO)
  show ((cfgM m hO).win 4).cut (grid0.coords t) ((dats m hO hH 0 c).after 4 t) = _
  rw [after0_4]
  funext y
  exact outsAt_result m hO hH lo hi hlo hhi c t y

/-- The run: the result array at the layer, the arguments unchanged. -/
theorem run (hO : Ok m) (hH : Hyps m hO) (lo hi : Fin 64 → Fin 64)
    (hlo : ∀ g, ((tbl m 0 : S64.Idx → BitVec 32) (ix1 g)).toNat = (lo g).val)
    (hhi : ∀ g, ((tbl m 1 : S64.Idx → BitVec 32) (ix1 g)).toNat = (hi g).val) :
    θ_run defs (onTc (τ := τ) (main (F := Ideal))) ⟨m, fun _ => 0, ρ⟩ fun r => ∀ c : Dev nD,
      r.2.mem ((c.tc : Thread nD τ).loc main_v10) = result m lo hi c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 4).trans (final_o m hO hH lo hi hlo hhi c),
      ((h c).2 main_arg0 (by decide : main_arg0 ∈ Pipeline.restRefs sig spec0)).trans (V_main_arg0 m c),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).1 3).trans (((dats m hO hH 0 c).arrAt_in 3 rfl _).trans ((A_eq m hO hH c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO hH)

end Cert.KernelIdeal.Model

end
-- ==== Proof.Reference.lean ====
/- The reference's result at an element is the linear layer's mathematics there (hand-written, untrusted). -/
module
public import proofs.«01_k».proof.Proof.Gen.ReferenceIdeal.Run
public import proofs.«01_k».proof.Proof.Spec
public import Idealize.ShloMosaic.Lib.Pointwise
@[expose] public section
set_option maxRecDepth 16384
noncomputable section
namespace Cert.ReferenceIdeal.Layer
open Idealize.ShloMosaic Idealize.ShloMosaic.TcCoe Idealize.ShloMosaic.Tactic
open Cert.Proof.Spec Cert.ReferenceIdeal Cert.ReferenceIdeal.Gen

/-- The two-axis contraction at an element: the sum over the groups and over the 64 inputs of a group. -/
theorem dot_apply (l : FVec Ideal S48x1x64x64 .bf16) (r : FVec Ideal S64x64x29696 .bf16) (i : Fin 48) (n : Fin 29696) :
    (Host.dotGeneral (F := Ideal) dot_S48x1x64x64_S64x64x29696_S48x1x29696_23_01_01_2_n_n none l r : FVec Ideal S48x1x29696 .f32) (ix3 i 0 n)
      = ∑ g : Fin 64, ∑ k : Fin 64, (l (ix4 i 0 g k) : EReal) * r (ix3 g k n) := by
  pointwise

/-- The table row an index word names, clamped into the table as a gather clamps it. -/
def rowAt (w : BitVec 32) : Fin 64 := ⟨min w.toInt.toNat 63, by omega⟩

/-- Gathering rows of a 64-row table, at an element. -/
theorem gather_rows {α : Type} (x : S64x29696.Idx → α) (idx : IVec S64x1 32) (g : Fin 64) (n : Fin 29696) :
    Host.gather gather_S64x29696_S64x1_S64x29696_1_0_n_n_0_1_129696 x idx (ix2 g n) = x (ix2 (rowAt (idx (ix2 g 0))) n) := by
  have e : (gather_S64x29696_S64x1_S64x29696_1_0_n_n_0_1_129696).siIdx (ix2 g n) ⟨0, Nat.one_pos⟩ = (ix2 g 0 : S64x1.Idx) := by
    funext b
    match b with
    | ⟨0, _⟩ => rfl
    | ⟨1, _⟩ => rfl
  rw [← e]
  refine congrArg x (funext fun a => Fin.ext ?_)
  match a with
  | ⟨0, _⟩ => rfl
  | ⟨1, _⟩ => exact Nat.zero_add _

/-- Gathering the activations' columns, at an element. -/
theorem gather_cols {α : Type} (x : S48x1x8192.Idx → α) (idx : IVec S8192x1 32) (i : Fin 48) (J : Fin 8192) :
    Host.gather gather_S48x1x8192_S8192x1_S48x1x8192_01_2_n_n_2_1_4811 x idx (ix3 i 0 J) = x (ix3 i 0 (column (idx (ix2 J 0)))) := by
  have e : (gather_S48x1x8192_S8192x1_S48x1x8192_01_2_n_n_2_1_4811).siIdx (ix3 i 0 J) ⟨0, Nat.one_pos⟩ = (ix2 J 0 : S8192x1.Idx) := by
    funext b
    match b with
    | ⟨0, _⟩ => rfl
    | ⟨1, _⟩ => rfl
  rw [← e]
  refine congrArg x (funext fun a => Fin.ext ?_)
  match a with
  | ⟨0, _⟩ => exact Nat.zero_add _
  | ⟨1, _⟩ => rfl
  | ⟨2, _⟩ => rfl

/-- The index column of the group words `w`: a negative word counts from the end of the table. -/
def row (w : IVec S64 32) : IVec S64x1 32 :=
  broadcastInDim S64x1 ![0] bcast_S64_S64x1_0 (select (cmpi .slt w (broadcastInDim S64 ![] bcast_S_S64 (constantI S_ 32 0#32))) (addi w (broadcastInDim S64 ![] bcast_S_S64 (constantI S_ 32 64#32))) w)

/-- A word below 64 names its own row. -/
theorem row_apply (w : IVec S64 32) (g : Fin 64) (h : (w (ix1 g)).toNat < 64) : rowAt (row w (ix2 g 0)) = ⟨(w (ix1 g)).toNat, h⟩ := by
  have e : row w (ix2 g 0) = w (ix1 g) := by
    unfold row
    pointwise
    generalize w (ix1 g) = v at h
    have hs : BitVec.slt v 0#32 = false := by
      simp only [BitVec.slt, decide_eq_false_iff_not, BitVec.toInt_eq_toNat_cond, BitVec.toNat_ofNat]
      split <;> omega
    simp only [IntOp.cmpi, hs]
    rfl
  rw [e]
  generalize w (ix1 g) = v at h
  refine Fin.ext ?_
  show min v.toInt.toNat 63 = v.toNat
  rw [BitVec.toInt_eq_toNat_cond]
  split <;> omega

/-- The low nibble of a widened byte, -/
theorem lo_nat (b : BitVec 8) : (IntOp.andi (BitVec.setWidth 32 b) 15#32).toNat = if (0 : Nat) = 0 then b.toNat % 16 else b.toNat / 16 := by
  revert b
  decide +kernel

/-- and the high one. -/
theorem hi_nat (b : BitVec 8) : (IntOp.shrui .host (BitVec.setWidth 32 b) 4#32).toNat = if (1 : Nat) = 0 then b.toNat % 16 else b.toNat / 16 := by
  revert b
  decide +kernel

/-- The unpacked zero points: the low nibbles above the high nibbles. -/
def zeros (z : IVec S32x29696 8) : IVec S64x29696 32 :=
  concatenate S64x29696 0 [⟨S32x29696, (andi (extui 32 z natLt_8_32) (broadcastInDim S32x29696 ![] bcast_S_S32x29696 (constantI S_ 32 15#32)))⟩, ⟨S32x29696, (Host.shrui (extui 32 z natLt_8_32) (broadcastInDim S32x29696 ![] bcast_S_S32x29696 (constantI S_ 32 4#32)))⟩] concatenates_S32x29696_S32x29696_S64x29696_d0

/-- They are the zero points of the mathematics. -/
theorem zeros_apply (z : IVec S32x29696 8) (r : Fin 64) (n : Fin 29696) :
   (((zeros z (ix2 r n)).toNat : ℝ) : EReal) = zero z r n := by
  unfold zeros zero
  pointwise
  split
  · exact congrArg (fun k : Nat => ((k : ℝ) : EReal)) (lo_nat _)
  · exact congrArg (fun k : Nat => ((k : ℝ) : EReal)) (hi_nat _)

/-- The zero point of every input of the groups' rows `w`. -/
def zt (z : IVec S32x29696 8) (w : IVec S64 32) : FVec Ideal S64x64x29696 .bf16 :=
  broadcastInDim S64x64x29696 ![0, 1, 2] bcast_S64x1x29696_S64x64x29696_0_1_2 (broadcastInDim S64x1x29696 ![0, 2] bcast_S64x29696_S64x1x29696_0_2 (uitofp .bf16 (Host.gather gather_S64x29696_S64x1_S64x29696_1_0_n_n_0_1_129696 (zeros z) (row w))))

/-- Every input of a group takes the zero point of the group's row, -/
theorem zt_apply (z : IVec S32x29696 8) (w : IVec S64 32) (g k : Fin 64) (n : Fin 29696) (h : (w (ix1 g)).toNat < 64) :
    (zt z w (ix3 g k n) : EReal) = zero z ⟨(w (ix1 g)).toNat, h⟩ n := by
  rw [← zeros_apply, ← row_apply w g h]
  refine Eq.trans ?_ (congrArg (fun v : BitVec 32 => ((v.toNat : ℝ) : EReal)) (gather_rows (zeros z) (row w) g n))
  unfold zt
  generalize Host.gather gather_S64x29696_S64x1_S64x29696_1_0_n_n_0_1_129696 (zeros z) (row w) = y
  pointwise
  rfl

/-- The scale of every input of the groups' rows `w`. -/
def st (s : FVec Ideal S64x29696 .bf16) (w : IVec S64 32) : FVec Ideal S64x64x29696 .bf16 :=
  broadcastInDim S64x64x29696 ![0, 1, 2] bcast_S64x1x29696_S64x64x29696_0_1_2 (broadcastInDim S64x1x29696 ![0, 2] bcast_S64x29696_S64x1x29696_0_2 (Host.gather gather_S64x29696_S64x1_S64x29696_1_0_n_n_0_1_129696 s (row w)))

/-- and the scale of that row. -/
theorem st_apply (s : FVec Ideal S64x29696 .bf16) (w : IVec S64 32) (g k : Fin 64) (n : Fin 29696) (h : (w (ix1 g)).toNat < 64) :
    st s w (ix3 g k n) = s (ix2 ⟨(w (ix1 g)).toNat, h⟩ n) := by
  rw [← row_apply w g h]
  refine Eq.trans ?_ (gather_rows s (row w) g n)
  unfold st
  generalize Host.gather gather_S64x29696_S64x1_S64x29696_1_0_n_n_0_1_129696 s (row w) = y
  pointwise

/-- The packed codes, widened, byte row `64 g + k` at group `g`, place `k`. -/
def codes (q : IVec S4096x29696 8) : IVec S64x64x29696 32 :=
  shapeCast _ (extui 32 q natLt_8_32) shapeCasts_S4096x29696_S64x64x29696

/-- The dequantized weights of the even inputs, -/
def wlo (q : IVec S4096x29696 8) (s : FVec Ideal S64x29696 .bf16) (z : IVec S32x29696 8) (w : IVec S64 32) : FVec Ideal S64x64x29696 .bf16 :=
  mulf (subf (uitofp .bf16 (andi (codes q) (broadcastInDim S64x64x29696 ![] bcast_S_S64x64x29696 (constantI S_ 32 15#32)))) (zt z w)) (st s w)

/-- and of the odd ones. -/
def whi (q : IVec S4096x29696 8) (s : FVec Ideal S64x29696 .bf16) (z : IVec S32x29696 8) (w : IVec S64 32) : FVec Ideal S64x64x29696 .bf16 :=
  mulf (subf (uitofp .bf16 (Host.shrui (codes q) (broadcastInDim S64x64x29696 ![] bcast_S_S64x64x29696 (constantI S_ 32 4#32)))) (zt z w)) (st s w)

/-- The even inputs' weights are the mathematics' weights there, -/
theorem wlo_apply (q : IVec S4096x29696 8) (s : FVec Ideal S64x29696 .bf16) (z : IVec S32x29696 8) (w w' : IVec S64 32)
    (h : ∀ g, (w (ix1 g)).toNat < 64) (h' : ∀ g, (w' (ix1 g)).toNat < 64) (g k : Fin 64) (n : Fin 29696) :
    (wlo q s z w (ix3 g k n) : EReal) = weight q s z (fun g => ⟨_, h g⟩) (fun g => ⟨_, h' g⟩) ⟨128 * g + 2 * k, by omega⟩ n := by
  rw [weight_even]
  unfold wlo codes
  have hz := zt_apply z w g k n (h g)
  have hs := st_apply s w g k n (h g)
  generalize zt z w = a at hz
  generalize st s w = b at hs
  pointwise
  rw [hz, hs]
  refine congrArg₂ (· * ·) (congrArg₂ (· - ·) ?_ rfl) rfl
  exact congrArg (fun k : Nat => ((k : ℝ) : EReal)) (lo_nat _)

/-- and so are the odd inputs'. -/
theorem whi_apply (q : IVec S4096x29696 8) (s : FVec Ideal S64x29696 .bf16) (z : IVec S32x29696 8) (w w' : IVec S64 32)
    (h : ∀ g, (w (ix1 g)).toNat < 64) (h' : ∀ g, (w' (ix1 g)).toNat < 64) (g k : Fin 64) (n : Fin 29696) :
    (whi q s z w' (ix3 g k n) : EReal) = weight q s z (fun g => ⟨_, h g⟩) (fun g => ⟨_, h' g⟩) ⟨128 * g + 2 * k + 1, by omega⟩ n := by
  rw [weight_odd]
  unfold whi codes
  have hz := zt_apply z w' g k n (h' g)
  have hs := st_apply s w' g k n (h' g)
  generalize zt z w' = a at hz
  generalize st s w' = b at hs
  pointwise
  rw [hz, hs]
  refine congrArg₂ (· * ·) (congrArg₂ (· - ·) ?_ rfl) rfl
  exact congrArg (fun k : Nat => ((k : ℝ) : EReal)) (hi_nat _)
/-- The even columns of the permuted activations, by group, -/
def xs0 (x : FVec Ideal S48x1x8192 .bf16) (idx : IVec S8192x1 32) : FVec Ideal S48x1x64x64 .bf16 :=
  shapeCast _ (Host.slice S48x1x4096 ![0, 0, 0] ![1, 1, 2] (Host.gather gather_S48x1x8192_S8192x1_S48x1x8192_01_2_n_n_2_1_4811 x idx) slicesBy_S48x1x8192_S48x1x4096_0s1_0s1_0s2) shapeCasts_S48x1x4096_S48x1x64x64
/-- at an element; -/
theorem xs0_apply (x : FVec Ideal S48x1x8192 .bf16) (idx : IVec S8192x1 32) (i : Fin 48) (g k : Fin 64) :
  xs0 x idx (ix4 i 0 g k) = x (ix3 i 0 (column (idx (ix2 ⟨128 * g + 2 * k, by omega⟩ 0)))) := by
  refine Eq.trans ?_ (gather_cols x idx i _)
  unfold xs0
  generalize Host.gather gather_S48x1x8192_S8192x1_S48x1x8192_01_2_n_n_2_1_4811 x idx = y
  pointwise
  exact congrArg y (congrArg (ix3 i 0) (Fin.ext (by show 2 * (g.val * 64 + k.val) = 128 * g.val + 2 * k.val; omega)))

/-- the odd columns, -/
def xs1 (x : FVec Ideal S48x1x8192 .bf16) (idx : IVec S8192x1 32) : FVec Ideal S48x1x64x64 .bf16 :=
  shapeCast _ (Host.slice S48x1x4096 ![0, 0, 1] ![1, 1, 2] (Host.gather gather_S48x1x8192_S8192x1_S48x1x8192_01_2_n_n_2_1_4811 x idx) slicesBy_S48x1x8192_S48x1x4096_0s1_0s1_1s2) shapeCasts_S48x1x4096_S48x1x64x64
/-- at an element. -/
theorem xs1_apply (x : FVec Ideal S48x1x8192 .bf16) (idx : IVec S8192x1 32) (i : Fin 48) (g k : Fin 64) :
  xs1 x idx (ix4 i 0 g k) = x (ix3 i 0 (column (idx (ix2 ⟨128 * g + 2 * k + 1, by omega⟩ 0)))) := by
  refine Eq.trans ?_ (gather_cols x idx i _)
  unfold xs1
  generalize Host.gather gather_S48x1x8192_S8192x1_S48x1x8192_01_2_n_n_2_1_4811 x idx = y
  pointwise
  exact congrArg y (congrArg (ix3 i 0) (Fin.ext (by show 1 + 2 * (g.val * 64 + k.val) = 128 * g.val + 2 * k.val + 1; omega)))

/-- The product of one half of the inputs. -/
def half (x : FVec Ideal S48x1x64x64 .bf16) (w : FVec Ideal S64x64x29696 .bf16) : FVec Ideal S48x1x29696 .f32 :=
  Host.dotGeneral dot_S48x1x64x64_S64x64x29696_S48x1x29696_23_01_01_2_n_n none x w

/-- The sum of the two halves, rounded to the result's type. -/
def whole (a b : FVec Ideal S48x1x29696 .f32) : FVec Ideal S48x29696 .bf16 :=
  shapeCast _ (truncf .bf16 (addf a b) bitsLt_bf16_f32) shapeCasts_S48x1x29696_S48x29696

/-- At an element it is the sum: the rounding is the identity on the reals. -/
theorem whole_apply (a b : FVec Ideal S48x1x29696 .f32) (i : Fin 48) (n : Fin 29696) :
    (whole a b (ix2 i n) : EReal) = (a (ix3 i 0 n) : EReal) + b (ix3 i 0 n) := by
  unfold whole
  pointwise

/-- The reference's result as a function of its arguments. -/
def out (x : FVec Ideal S48x1x8192 .bf16) (q : IVec S4096x29696 8) (s : FVec Ideal S64x29696 .bf16) (z : IVec S32x29696 8)
    (w w' : IVec S64 32) (idx : IVec S8192x1 32) : FVec Ideal S48x29696 .bf16 :=
  whole (half (xs0 x idx) (wlo q s z w)) (half (xs1 x idx) (whi q s z w'))

/-- At an element it is the linear layer's sum over all inputs. -/
theorem out_apply (x : FVec Ideal S48x1x8192 .bf16) (q : IVec S4096x29696 8) (s : FVec Ideal S64x29696 .bf16) (z : IVec S32x29696 8)
    (w w' : IVec S64 32) (idx : IVec S8192x1 32)
    (h : ∀ g, (w (ix1 g)).toNat < 64) (h' : ∀ g, (w' (ix1 g)).toNat < 64) (i : Fin 48) (n : Fin 29696) :
    (out x q s z w w' idx (ix2 i n) : EReal) = ∑ j ∈ Finset.range 8192, ext (fun J => x (ix3 i 0 (column (idx (ix2 J 0)))) *
      weight q s z (fun g => ⟨_, h g⟩) (fun g => ⟨_, h' g⟩) J n) j := by
  rw [sum_groups _ 8192 rfl]
  refine (whole_apply _ _ i n).trans ?_
  refine congrArg₂ (· + ·) ((dot_apply _ _ i n).trans ?_) ((dot_apply _ _ i n).trans ?_)
  · exact Finset.sum_congr rfl fun g _ => Finset.sum_congr rfl fun k _ =>
      congrArg₂ (· * ·) (xs0_apply x idx i g k) (wlo_apply q s z w w' h h' g k n)
  · exact Finset.sum_congr rfl fun g _ => Finset.sum_congr rfl fun k _ =>
      congrArg₂ (· * ·) (xs1_apply x idx i g k) (whi_apply q s z w w' h h' g k n)

/-- The permutation's index column: a negative word counts from the end. -/
def indices (p : IVec S8192 32) : IVec S8192x1 32 :=
  broadcastInDim S8192x1 ![0] bcast_S8192_S8192x1_0 (select (cmpi .slt p (broadcastInDim S8192 ![] bcast_S_S8192 (constantI S_ 32 0#32))) (addi p (broadcastInDim S8192 ![] bcast_S_S8192 (constantI S_ 32 8192#32))) p)

/-- The reference's result is that function of the arguments. -/
theorem res_eq (m : (ℓ : Loc nD τ sig) → Buf (Elt Ideal) ℓ) (c : Dev nD) :
    Value.res_main_v73 m c = out (m ((c.tc : Thread nD τ).loc main_arg0)) (m ((c.tc : Thread nD τ).loc main_arg1))
      (m ((c.tc : Thread nD τ).loc main_arg2)) (m ((c.tc : Thread nD τ).loc main_arg3))
      (Host.slice S64 ![0] ![128] (m ((c.tc : Thread nD τ).loc main_arg4)) slicesBy_S8192_S64_0s128)
      (Host.slice S64 ![1] ![128] (m ((c.tc : Thread nD τ).loc main_arg4)) slicesBy_S8192_S64_1s128)
      (indices (m ((c.tc : Thread nD τ).loc main_arg5))) := rfl

end Cert.ReferenceIdeal.Layer
end
-- ==== Proof.Columns.lean ====
/- The activations as the kernel reads them: the host's permutation of the columns (hand-written, untrusted). -/
module

public import proofs.«01_k».proof.Proof.Array
public import proofs.«01_k».proof.Proof.Reference

@[expose] public section

set_option maxRecDepth 16384

noncomputable section

namespace Cert.KernelIdeal.Columns

open Idealize.ShloMosaic Idealize.ShloMosaic.TcCoe Idealize.ShloMosaic.Tactic
open Cert.KernelIdeal Cert.KernelIdeal.Gen Cert.Proof.Spec

/-- Gathering the columns of a matrix, at an element. -/
theorem gather_cols {α : Type} (x : S48x8192.Idx → α) (idx : IVec S8192x1 32) (i : Fin 48) (J : Fin 8192) :
    Host.gather gather_S48x8192_S8192x1_S48x8192_0_1_n_n_1_1_481 x idx (ix2 i J) = x (ix2 i (column (idx (ix2 J 0)))) := by
  have e : (gather_S48x8192_S8192x1_S48x8192_0_1_n_n_1_1_481).siIdx (ix2 i J) ⟨0, Nat.one_pos⟩ = (ix2 J 0 : S8192x1.Idx) := by
    funext b
    match b with
    | ⟨0, _⟩ => rfl
    | ⟨1, _⟩ => rfl
  rw [← e]
  refine congrArg x (funext fun a => Fin.ext ?_)
  match a with
  | ⟨0, _⟩ => exact Nat.zero_add _
  | ⟨1, _⟩ => rfl

/-- The activations' rows as a matrix. -/
def flat {α : Type} (x : S48x1x8192.Idx → α) : S48x8192.Idx → α := shapeCast _ x shapeCasts_S48x1x8192_S48x8192

theorem flat_apply {α : Type} (x : S48x1x8192.Idx → α) (i : Fin 48) (J : Fin 8192) : flat x (ix2 i J) = x (ix3 i 0 J) := by
  unfold flat
  pointwise

variable (m : (ℓ : Loc nD τ sig) → Buf (Elt Ideal) ℓ)

/-- What the host leaves in the kernel's first operand. -/
theorem v7 (c : Dev nD) :
    (V m c main_v7 : S48x8192.Idx → EReal) = Host.gather gather_S48x8192_S8192x1_S48x8192_0_1_n_n_1_1_481
      (flat (m ((c : Thread nD τ).loc main_arg0))) (Cert.ReferenceIdeal.Layer.indices (m ((c : Thread nD τ).loc main_arg5))) := by
  show StableHlo.after hostOps0 (fun b => m (c, b)) main_v7 = _
  after_results_simp <;> rfl

/-- Its element at row `i`, column `J` is the activation of row `i` at the column the permutation names. -/
theorem v7_apply (c : Dev nD) (i : Fin 48) (J : Fin 8192) :
    (V m c main_v7 : S48x8192.Idx → EReal) (ix2 i J) = (m ((c : Thread nD τ).loc main_arg0) : S48x1x8192.Idx → EReal)
      (ix3 i 0 (column (Cert.ReferenceIdeal.Layer.indices (m ((c : Thread nD τ).loc main_arg5)) (ix2 J 0)))) :=
  (congrFun (v7 m c) (ix2 i J)).trans ((gather_cols _ _ i J).trans (flat_apply _ i _))

end Cert.KernelIdeal.Columns

end
-- ==== Proof.Algebraic.lean ====
/- The value claim: over the extended reals the kernel's result is the reference's, element by element (hand-written,
   untrusted). -/
module

public import proofs.«01_k».proof.Proof.Frames
public import proofs.«01_k».proof.Proof.Columns

@[expose] public section

set_option maxRecDepth 16384

noncomputable section

namespace Cert.Proof.Algebraic

open Idealize.ShloMosaic Idealize.ShloMosaic.TcCoe Idealize.SL.Sem
open Cert.KernelIdeal Cert.KernelIdeal.Gen Cert.KernelIdeal.Model Cert.Proof.Spec

variable (m : (ℓ : Loc nD τ sig) → Buf (Elt Ideal) ℓ)

/-- The group words of the even inputs, -/
def words0 : IVec S64 32 := Host.slice S64 ![0] ![128] (m (((0 : Dev nD) : Thread nD τ).loc main_arg4)) slicesBy_S8192_S64_0s128

/-- and of the odd inputs. -/
def words1 : IVec S64 32 := Host.slice S64 ![1] ![128] (m (((0 : Dev nD) : Thread nD τ).loc main_arg4)) slicesBy_S8192_S64_1s128

theorem words0_lt (h : Pre_KernelIdeal m) (g : Fin 64) : (words0 m (ix1 g)).toNat < 64 := Groups.lo_lt _ _ _ _ _ _ (h 0).1 (ix1 g)

theorem words1_lt (h : Pre_KernelIdeal m) (g : Fin 64) : (words1 m (ix1 g)).toNat < 64 := Groups.hi_lt _ _ _ _ _ _ (h 0).2 (ix1 g)

/-- The reference's function of the kernel's arguments. -/
def value (c : Dev nD) : Buf (Elt Ideal) ((c.tc : Thread nD τ).loc main_v10) :=
  Cert.ReferenceIdeal.Layer.out (m ((c : Thread nD τ).loc main_arg0)) (m ((c : Thread nD τ).loc main_arg1))
    (m ((c : Thread nD τ).loc main_arg2)) (m ((c : Thread nD τ).loc main_arg3)) (words0 m) (words1 m)
    (Cert.ReferenceIdeal.Layer.indices (m ((c : Thread nD τ).loc main_arg5)))

/-- The kernel's result is that function. -/
theorem result_eq (h : Pre_KernelIdeal m) (c : Dev nD) :
    result m (fun g => ⟨_, words0_lt m h g⟩) (fun g => ⟨_, words1_lt m h g⟩) c = value m c := by
  refine funext fun (y : S48x29696.Idx) => ?_
  have e : y = ix2 (y 0) (y 1) := by
    funext b
    match b with
    | ⟨0, _⟩ => rfl
    | ⟨1, _⟩ => rfl
  rw [e]
  generalize y 0 = i
  generalize y 1 = n
  refine Eq.trans ?_ (Cert.ReferenceIdeal.Layer.out_apply _ _ _ _ _ _ _ (words0_lt m h) (words1_lt m h) i n).symm
  show layer (V m c main_v7) (V m c main_arg1) (V m c main_arg2) (V m c main_arg3) _ _ i n = _
  rw [V_main_arg1, V_main_arg2, V_main_arg3]
  unfold layer
  refine Finset.sum_congr rfl fun j _ => congrArg (fun f => ext f j) (funext fun J => ?_)
  exact congrArg (· * _) (Columns.v7_apply m c i J)

theorem algebraic : algebraic_KernelIdeal_ReferenceIdeal := fun m ρ m' ρ' h e =>
  ⟨value m,
    (θ_run _ _ _).mono (fun _ k c => ⟨(k c).1.trans (result_eq m h c), (k c).2⟩)
      (run m ρ (Tables.ok m) (Frames.hyps_ideal m h) (fun g => ⟨_, words0_lt m h g⟩) (fun g => ⟨_, words1_lt m h g⟩)
        (fun g => by rw [Tables.tbl_lo m]; rfl) (fun g => by rw [Tables.tbl_hi m]; rfl)),
    (θ_run _ _ _).mono (fun _ k c => ⟨(k c).1.trans (by
        obtain rfl : c = 0 := Subsingleton.elim _ _
        rw [Cert.ReferenceIdeal.Layer.res_eq, (e 0).1, (e 0).2.1, (e 0).2.2.1, (e 0).2.2.2.1, (e 0).2.2.2.2.1, (e 0).2.2.2.2.2]
        rfl), (k c).2⟩)
      (Cert.ReferenceIdeal.Value.run (F := Ideal) m' ρ')⟩

end Cert.Proof.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_groups_in_range
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_groups_in_range.Gen.facts,
    Frames.kernel, Frames.kernelIdeal, Frames.referenceIdeal, Frames.referenceIdeal_pre, Frames.preserves, Algebraic.algebraic⟩

end Cert.Proof

end
